-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ quiescent_Reference (hReference := hReference) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
    ∧ bitexact_Kernel_Reference (hKernel := hKernel) (hReference := hReference) (hPre_in_range := hPre_in_range)
-- ==== Pre_in_range.lean ====
abbrev S4096x50 : Shape := ⟨2, ![4096, 50]⟩
abbrev S100000x128 : Shape := ⟨2, ![100000, 128]⟩
abbrev S_ : Shape := ⟨0, ![]⟩

class Facts : Prop where
  bcast_S_S4096x50 : S_.BroadcastsInDim S4096x50 (![] : Fin 0 → Fin S4096x50.rank)
  reducesTo_S4096x50_S_d0_1 : S4096x50.ReducesTo [0, 1] S_
  h_S_ : 0 < S_.numel

variable [Facts]

def fn {F : FTy → Type} [FloatOps F] (main_arg0 : IVec S4096x50 32) (main_arg1 : FVec F S100000x128 .f32) : IVec S_ 1 :=
  let main_c : IVec S_ 32 := constantI S_ 32 0#32
  let main_v0 : IVec S4096x50 32 := broadcastInDim S4096x50 ![] bcast_S_S4096x50 main_c
  let main_v1 : IVec S4096x50 1 := cmpi .sge main_arg0 main_v0
  let main_c_0 : IVec S_ 32 := constantI S_ 32 100000#32
  let main_v2 : IVec S4096x50 32 := broadcastInDim S4096x50 ![] bcast_S_S4096x50 main_c_0
  let main_v3 : IVec S4096x50 1 := cmpi .slt main_arg0 main_v2
  let main_v4 : IVec S4096x50 1 := andi main_v1 main_v3
  let main_c_1 : IVec S_ 1 := constantI S_ 1 1#1
  let main_v5 : IVec S_ 1 := (fun x v => Host.reduce IntOp.andi x v reducesTo_S4096x50_S_d0_1 h_S_) main_v4 main_c_1
  main_v5
-- ==== Kernel.lean ====
abbrev S4096x50 : Shape := ⟨2, ![4096, 50]⟩
abbrev S100000x128 : Shape := ⟨2, ![100000, 128]⟩
abbrev S1x204800 : Shape := ⟨2, ![1, 204800]⟩
abbrev S204800x128 : Shape := ⟨2, ![204800, 128]⟩
abbrev S2x1x256 : Shape := ⟨3, ![2, 1, 256]⟩
abbrev S2 : Shape := ⟨1, ![2]⟩
abbrev S2x256x128 : Shape := ⟨3, ![2, 256, 128]⟩
abbrev S1x1x256 : Shape := ⟨3, ![1, 1, 256]⟩
abbrev S1x256 : Shape := ⟨2, ![1, 256]⟩
abbrev S1 : Shape := ⟨1, ![1]⟩
abbrev S_ : Shape := ⟨0, ![]⟩
abbrev S1x256x128 : Shape := ⟨3, ![1, 256, 128]⟩
abbrev S256x128 : Shape := ⟨2, ![256, 128]⟩
abbrev S256 : Shape := ⟨1, ![256]⟩
abbrev S4096x50x128 : Shape := ⟨3, ![4096, 50, 128]⟩

abbrev nBuf : Table → Nat
  | .hbm => 5
  | .local .scVector .vmem => 2
  | _ => 0

abbrev bufTy : (tb : Table) → Fin (nBuf tb) → BufTy
  | .hbm, ⟨0, _⟩ => ⟨S4096x50, .i32⟩
  | .hbm, ⟨1, _⟩ => ⟨S100000x128, .f32⟩
  | .hbm, ⟨2, _⟩ => ⟨S1x204800, .i32⟩
  | .hbm, ⟨3, _⟩ => ⟨S204800x128, .f32⟩
  | .hbm, ⟨4, _⟩ => ⟨S4096x50x128, .f32⟩
  | .local .scVector .vmem, ⟨0, _⟩ => ⟨S2x1x256, .i32⟩
  | .local .scVector .vmem, ⟨1, _⟩ => ⟨S2x256x128, .f32⟩
  | _, _ => ⟨S4096x50, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg1_scv : Ref sig .scVector := ⟨.hbm, 1, rfl⟩
abbrev main_v0_scv : Ref sig .scVector := ⟨.hbm, 2, rfl⟩
abbrev main_v1_scv : Ref sig .scVector := ⟨.hbm, 3, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c256_i32_r0 : BitVec 32 := 256#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v7_r0 : BitVec 32 := Scalar.addi c0_i32_1_r0 v4
  let v22_r0 : BitVec 32 := Scalar.muli c256_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c25_i32_27_r0 : BitVec 32 := 25#32
  let v32_r0 : BitVec 32 := Scalar.addi c0_i32_26_r0 c25_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c25_i32_62_r0 : BitVec 32 := 25#32
  let v74_r0 : BitVec 1 := Scalar.cmpi .eq v73_r0 c25_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c24_i32_68_r0 : BitVec 32 := 24#32
  let v83_r0 : BitVec 1 := Scalar.cmpi .sge arg5_r0 c24_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c256_i32_100_r0 : BitVec 32 := 256#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c25_i32_62_r0 : BitVec 32 := 25#32
  let v74_r0 : BitVec 1 := Scalar.cmpi .eq v73_r0 c25_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v76_r0 : BitVec 32 := Scalar.addi v75_r0 v4
  let v145_r0 : BitVec 32 := Scalar.muli c256_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c24_i32_59_r0 : BitVec 32 := 24#32
  let v70_r0 : BitVec 32 := Scalar.select v69_r0 c24_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c256_i32_99_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v66_r0 : BitVec 32 := Scalar.addi arg10_r0 v4
  let v144_r0 : BitVec 32 := Scalar.muli c256_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x256x128.size a ≤ S2x256x128.size a)
theorem k0_off10_inb : ∀ (arg8_r0 : BitVec 32) (k0_hw2 : k0_chk2 arg8_r0), ∀ a, (k0_off10 arg8_r0) a + S1x256x128.size a ≤ S2x256x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x256.size a ≤ S2x1x256.size a)
theorem k0_off11_inb : ∀ (arg7_r0 : BitVec 32) (k0_hw3 : k0_chk3 arg7_r0), ∀ a, (k0_off11 arg7_r0) a + S1x1x256.size a ≤ S2x1x256.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c25_i32_62_r0 : BitVec 32 := 25#32
  let v74_r0 : BitVec 1 := Scalar.cmpi .eq v73_r0 c25_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c24_i32_55_r0 : BitVec 32 := 24#32
  let v65_r0 : BitVec 1 := Scalar.cmpi .eq arg5_r0 c24_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c256_i32_100_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v66_r0 : BitVec 32 := Scalar.addi arg10_r0 v4
  let v145_r0 : BitVec 32 := Scalar.muli c256_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c24_i32_59_r0 : BitVec 32 := 24#32
  let v70_r0 : BitVec 32 := Scalar.select v69_r0 c24_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c256_i32_100_r0 : BitVec 32 := 256#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c24_i32_59_r0 : BitVec 32 := 24#32
  let v70_r0 : BitVec 32 := Scalar.select v69_r0 c24_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v71_r0 : BitVec 32 := Scalar.addi v70_r0 v4
  let v145_r0 : BitVec 32 := Scalar.muli c256_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x256.size a ≤ S2x1x256.size a) ∧
  (∀ (k0_h1 : k0_cond1 i k0_t1 arg10_r0 = 1#1), ∀ a, (k0_off5 i arg10_r0) a + S1x256.size a ≤ S1x204800.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x256.size a ≤ S2x1x256.size a) ∧
  (∀ (k0_h2 : k0_cond2 i k0_t1 arg10_r0 = 1#1), ∀ a, (k0_off8 i arg10_r0) a + S1x256.size a ≤ S1x204800.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x256x128.size a ≤ S2x256x128.size a) ∧
  (∀ (k0_h5 : k0_cond5 i k0_t1 arg10_r0 = 1#1), ∀ a, (k0_off13 i arg10_r0) a + S256x128.size a ≤ S204800x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x256x128.size a ≤ S2x256x128.size a) ∧
  (∀ (k0_h7 : k0_cond7 i k0_t1 arg10_r0 = 1#1), ∀ a, (k0_off16 i arg10_r0) a + S256x128.size a ≤ S204800x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x256.size a ≤ S2x1x256.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x256.size a ≤ S1x204800.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x256.size a ≤ S2x1x256.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x256.size a ≤ S1x204800.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x256x128.size a ≤ S2x256x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S256x128.size a ≤ S204800x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x256x128.size a ≤ S2x256x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S256x128.size a ≤ S204800x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c256_i32_47_r0 : BitVec 32 := 256#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c24_i32_33_r0 : BitVec 32 := 24#32
  let v37_r0 : BitVec 32 := Scalar.select v36_r0 c24_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v38_r0 : BitVec 32 := Scalar.addi v37_r0 v4
  let v55_r0 : BitVec 32 := Scalar.muli c256_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S256x128.size a ≤ S204800x128.size a)
theorem k0_off19_inb : ∀ (i : grid0.Coords) (v33_4_r0 : BitVec 32) (k0_hw5 : k0_chk5 i v33_4_r0), ∀ a, (k0_off19 i v33_4_r0) a + S256x128.size a ≤ S204800x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x256x128.size a ≤ S2x256x128.size a) ∧
  (∀ a, (k0_off20 v33_3_r0) a + S1.size a ≤ S2.size a) ∧
  (∀ a, (k0_off21 v33_3_r0) a + S1x256x128.size a ≤ S2x256x128.size a)
theorem k0_off18_inb : ∀ (v33_3_r0 : BitVec 32) (k0_hw4 : k0_chk4 v33_3_r0), ∀ a, (k0_off18 v33_3_r0) a + S1x256x128.size a ≤ S2x256x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x256x128.size a ≤ S2x256x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4096x50 : Shape := ⟨2, ![4096, 50]⟩
abbrev S100000x128 : Shape := ⟨2, ![100000, 128]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x128 : Shape := ⟨3, ![4096, 50, 128]⟩

abbrev nBuf : Space → Nat
  | .hbm => 25
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S100000x128, .f32⟩
  | .hbm, ⟨2, _⟩ => ⟨S_, .i32⟩
  | .hbm, ⟨3, _⟩ => ⟨S4096x50, .i32⟩
  | .hbm, ⟨4, _⟩ => ⟨S4096x50, .i1⟩
  | .hbm, ⟨5, _⟩ => ⟨S_, .i32⟩
  | .hbm, ⟨6, _⟩ => ⟨S4096x50, .i32⟩
  | .hbm, ⟨7, _⟩ => ⟨S4096x50, .i32⟩
  | .hbm, ⟨8, _⟩ => ⟨S4096x50, .i32⟩
  | .hbm, ⟨9, _⟩ => ⟨S4096x50x1, .i32⟩
  | .hbm, ⟨10, _⟩ => ⟨S1, .i32⟩
  | .hbm, ⟨11, _⟩ => ⟨S_, .i32⟩
  | .hbm, ⟨12, _⟩ => ⟨S4096x50x1, .i32⟩
  | .hbm, ⟨13, _⟩ => ⟨S4096x50x1, .i1⟩
  | .hbm, ⟨14, _⟩ => ⟨S1x1x1, .i32⟩
  | .hbm, ⟨15, _⟩ => ⟨S4096x50x1, .i32⟩
  | .hbm, ⟨16, _⟩ => ⟨S4096x50x1, .i1⟩
  | .hbm, ⟨17, _⟩ => ⟨S4096x50x1, .i1⟩
  | .hbm, ⟨18, _⟩ => ⟨S_, .i1⟩
  | .hbm, ⟨19, _⟩ => ⟨S4096x50, .i1⟩
  | .hbm, ⟨20, _⟩ => ⟨S4096x50x128, .f32⟩
  | .hbm, ⟨21, _⟩ => ⟨S4096x50x128, .i1⟩
  | .hbm, ⟨22, _⟩ => ⟨S_, .f32⟩
  | .hbm, ⟨23, _⟩ => ⟨S4096x50x128, .f32⟩
  | .hbm, ⟨24, _⟩ => ⟨S4096x50x128, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Words.lean ====
/- The integers the kernel's tile program computes, in closed form: the offsets of its slices, the conditions of
   its branches and the five counters the loop carries, as functions of the tile's coordinates and of the trip. -/
module

public import proofs.«01_k».proof.Proof.Gen.KernelIdeal.Skeleton

@[expose] public section

namespace Cert.KernelIdeal.Lookup

open Idealize.ShloMosaic Cert.KernelIdeal.Gen

/-- The first flat position of a tile: tile `(c, s)` serves the positions `[first, first + 6400)` of the flattened
    index array, and the rows of the same numbers of the output. -/
def first (i : grid0.Coords) : ℕ := 6400 * (i 1).val + 102400 * (i 0).val

/-- The first flat position of the tile's block `n`, of 256 positions. -/
def blk (i : grid0.Coords) (n : ℕ) : ℕ := first i + 256 * n

theorem first_le : ∀ i : grid0.Coords, first i + 6400 ≤ 204800 := by decide +kernel

theorem trips_eq : k0_t1_loop.trips = 25 := by decide +kernel

/-- The loop's counters before trip `k`: index blocks requested, index blocks received, output blocks sent, output
    blocks confirmed, and the block the trip works on. -/
def counters (k : ℕ) : BitVec 32 × BitVec 32 × BitVec 32 × BitVec 32 × BitVec 32 :=
  (BitVec.ofNat 32 (min (k + 1) 25), BitVec.ofNat 32 k, BitVec.ofNat 32 k, BitVec.ofNat 32 (k - 1),
    BitVec.ofNat 32 (if k = 25 then 0 else k))

/-- The tile's first block among all blocks, as the kernel computes it. -/
def blockWord (i : grid0.Coords) : BitVec 32 :=
  Scalar.muli (Scalar.addi (Scalar.addi 0#32 (Scalar.muli (BitVec.ofNat 32 (i 1).val) 1#32))
    (Scalar.muli (BitVec.ofNat 32 (i 0).val) 16#32)) 25#32

/-! ## Slots: counter `n` uses slot `n % 2` -/

theorem off4_eq : ∀ n : Fin 26, k0_off4 (BitVec.ofNat 32 n) = ![n.val % 2, 0, 0] := by decide +kernel
theorem off6_eq : ∀ n : Fin 26, k0_off6 (BitVec.ofNat 32 n) = ![n.val % 2] := by decide +kernel
theorem off9_eq : ∀ n : Fin 26, k0_off9 (BitVec.ofNat 32 n) = ![n.val % 2] := by decide +kernel
theorem off10_eq : ∀ n : Fin 26, k0_off10 (BitVec.ofNat 32 n) = ![n.val % 2, 0, 0] := by decide +kernel
theorem off11_eq : ∀ n : Fin 26, k0_off11 (BitVec.ofNat 32 n) = ![n.val % 2, 0, 0] := by decide +kernel
theorem off12_eq : ∀ n : Fin 26, k0_off12 (BitVec.ofNat 32 n) = ![n.val % 2, 0, 0] := by decide +kernel
theorem off14_eq : ∀ n : Fin 26, k0_off14 (BitVec.ofNat 32 n) = ![n.val % 2] := by decide +kernel
theorem off17_eq : ∀ n : Fin 26, k0_off17 (BitVec.ofNat 32 n) = ![n.val % 2] := by decide +kernel
theorem off20_eq : ∀ n : Fin 26, k0_off20 (BitVec.ofNat 32 n) = ![n.val % 2] := by decide +kernel

/-! ## Blocks: trip `k` requests block `k + 1` and sends block `k` -/

theorem off5_eq : ∀ (i : grid0.Coords) (k : Fin 24), k0_off5 i (BitVec.ofNat 32 k) = ![0, blk i (k.val + 1)] := by
  decide +kernel
theorem off13_eq : ∀ (i : grid0.Coords) (k : Fin 25), k0_off13 i (BitVec.ofNat 32 k) = ![blk i k.val, 0] := by
  decide +kernel

/-! ## Conditions -/

theorem cond1_iff : ∀ (i : grid0.Coords) (k : Fin k0_t1_loop.trips),
    k0_cond1 i k (BitVec.ofNat 32 k) = 1#1 ↔ k.val < 24 := by
  decide +kernel
theorem cond2_true : ∀ (i : grid0.Coords) (k : Fin k0_t1_loop.trips), k0_cond2 i k (BitVec.ofNat 32 k) = 1#1 := by
  decide +kernel
theorem cond5_true : ∀ (i : grid0.Coords) (k : Fin k0_t1_loop.trips), k0_cond5 i k (BitVec.ofNat 32 k) = 1#1 := by
  decide +kernel
theorem cond7_iff : ∀ (i : grid0.Coords) (k : Fin k0_t1_loop.trips),
    k0_cond7 i k (BitVec.ofNat 32 k) = 1#1 ↔ 0 < k.val := by
  decide +kernel

/-! ## The bounds the program assumes -/

theorem chk1_holds : ∀ (i : grid0.Coords) (k : Fin k0_t1_loop.trips),
    k0_chk1 i k (BitVec.ofNat 32 (k.val + 1)) (BitVec.ofNat 32 k) (BitVec.ofNat 32 k) (BitVec.ofNat 32 (k.val - 1))
      (BitVec.ofNat 32 k) := by
  decide +kernel
theorem chk2_holds : ∀ n : Fin 26, k0_chk2 (BitVec.ofNat 32 n) := by decide +kernel
theorem chk3_holds : ∀ n : Fin 26, k0_chk3 (BitVec.ofNat 32 n) := by decide +kernel
theorem chk4_holds : k0_chk4 24#32 := by decide +kernel
theorem chk5_holds : ∀ i : grid0.Coords, k0_chk5 i 0#32 := by decide +kernel

/-! ## One trip of the counters -/

theorem counters_of_lt {k : ℕ} (h : k < 25) :
    counters k = (BitVec.ofNat 32 (k + 1), BitVec.ofNat 32 k, BitVec.ofNat 32 k, BitVec.ofNat 32 (k - 1), BitVec.ofNat 32 k) := by
  rw [counters, Nat.min_eq_left (by omega), if_neg (by omega)]

/-- The counters a trip hands on, as the kernel computes them: `here`, `before` and `after` are the trip's block and its
    neighbours in the tile's cycle of 25 blocks, and a counter moves when the neighbour differs or an end is reached. -/
def nextCounters (i : grid0.Coords) (k : Fin k0_t1_loop.trips) (a6 a7 a8 a9 a10 : BitVec 32) :
    BitVec 32 × BitVec 32 × BitVec 32 × BitVec 32 × BitVec 32 :=
  let trip := Scf.iv 0#32 1#32 k
  let here := Scalar.addi a10 (blockWord i)
  let down := Scalar.select 1#1 (Scalar.subi a10 1#32) a10
  let before := Scalar.addi (Scalar.select (Scalar.cmpi .eq down 4294967295#32) 24#32 down) (blockWord i)
  let up := Scalar.select 1#1 (Scalar.addi a10 1#32) a10
  let next := Scalar.select (Scalar.cmpi .eq up 25#32) 0#32 up
  let after := Scalar.addi next (blockWord i)
  let last := Scalar.cmpi .eq trip 24#32
  let leaves := Scalar.ori (Scalar.cmpi .ne here after) last
  (Scalar.select (Scalar.andi (Scalar.andi (Scalar.cmpi .ne here after) (Scalar.xori (Scalar.cmpi .sge trip 24#32) 1#1)) 1#1)
      (Scalar.addi a6 1#32) a6,
    Scalar.select leaves (Scalar.addi a7 1#32) a7,
    Scalar.select (Scalar.andi leaves 1#1) (Scalar.addi a8 1#32) a8,
    Scalar.select (Scalar.andi (Scalar.andi (Scalar.cmpi .ne here before) (Scalar.xori (Scalar.cmpi .eq trip 0#32) 1#1)) 1#1)
      (Scalar.addi a9 1#32) a9,
    next)

/-- A trip takes the counters before it to the counters before the next. -/
theorem nextCounters_eq : ∀ (i : grid0.Coords) (k : Fin k0_t1_loop.trips),
    nextCounters i k (BitVec.ofNat 32 (k.val + 1)) (BitVec.ofNat 32 k) (BitVec.ofNat 32 k) (BitVec.ofNat 32 (k.val - 1))
      (BitVec.ofNat 32 k) = counters (k.val + 1) := by
  decide +kernel

end Cert.KernelIdeal.Lookup
-- ==== Proof.Setup.lean ====
/- What the certificate of the lookup kernel is stated over: the launch's configuration, the arrays and scratch buffers
   as the tile programs address them, the pieces of them the tiles own, and the rows the kernel is to produce. -/
module

public import proofs.«01_k».proof.Defs
public import proofs.«01_k».proof.Proof.Words
public import Idealize.ShloMosaic.Lib.SparseCore.Quiescent
public import Idealize.ShloMosaic.Lib.SparseCore.Stream
public import Idealize.ShloMosaic.Lib.StableHlo.Run
public import Idealize.ShloMosaic.Lib.Pipeline.Kit
public import Idealize.ShloMosaic.Lib.ValueLayout
public import Idealize.ShloMosaic.Lib.ViewIndex
public import Idealize.ShloMosaic.Lib.Tactic

@[expose] public section

noncomputable section

namespace Cert.KernelIdeal.Lookup

open Cert.KernelIdeal.Gen
open Idealize.ShloMosaic Idealize.ShloMosaic.ValueIdx
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The launch -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The flattened indices, the table and the gathered rows, on device `d`. -/
abbrev idxLoc (d : Dev nD) : Loc nD τ sig := (SparseCore.T d).loc main_v0
abbrev tabLoc (d : Dev nD) : Loc nD τ sig := (SparseCore.T d).loc main_arg1
abbrev outLoc (d : Dev nD) : Loc nD τ sig := (SparseCore.T d).loc main_v1

/-- The tile at coordinates `L`, as a thread of device `d`, and its two scratch buffers. -/
abbrev tile (d : Dev nD) (L : grid0.Coords) : Thread nD τ := V d ((L 0).castLE hcore0) ((L 1).castLE hsub0)
abbrev ibufLoc (d : Dev nD) (L : grid0.Coords) : Loc nD τ sig := (tile d L).loc cc0_scoped0
abbrev rbufLoc (d : Dev nD) (L : grid0.Coords) : Loc nD τ sig := (tile d L).loc cc0_scoped2

/-- The arrays and scratch buffers as a tile's operations name them. -/
abbrev idxM : Memref sig .scVector .hbm S1x204800 .i32 := Memref.whole main_v0_scv
abbrev tabM : Memref sig .scVector .hbm S100000x128 .f32 := Memref.whole main_arg1_scv
abbrev outM : Memref sig .scVector .hbm S204800x128 .f32 := Memref.whole main_v1_scv
abbrev ibufM : Memref sig .scVector .vmem S2x1x256 .i32 := Memref.whole cc0_scoped0
abbrev rbufM : Memref sig .scVector .vmem S2x256x128 .f32 := Memref.whole cc0_scoped2

/-- 256 indices from an offset of the flattened index array; 256 rows of the output; the whole table. -/
abbrev idxPiece (off : Fin 2 → ℕ) (h : ∀ a, off a + S1x256.size a ≤ S1x204800.size a) : Memref sig .scVector .hbm S1x256 .i32 :=
  idxM.slice (Rect.unit (s := S1x204800) off S1x256.size h) (fun _ => rfl)
abbrev outPiece (off : Fin 2 → ℕ) (h : ∀ a, off a + S256x128.size a ≤ S204800x128.size a) :
    Memref sig .scVector .hbm S256x128 .f32 :=
  outM.slice (Rect.unit (s := S204800x128) off S256x128.size h) (fun _ => rfl)
abbrev tabAll : Memref sig .scVector .hbm S100000x128 .f32 :=
  tabM.slice (Rect.unit (s := S100000x128) ![0, 0] S100000x128.size inb_S100000x128_S100000x128_0_0) (fun _ => rfl)

/-- A slot of the index scratch, as the target of a copy and as the list a gather reads; a slot of the row scratch. -/
abbrev idxSlot (off : Fin 3 → ℕ) (h : ∀ a, off a + S1x1x256.size a ≤ S2x1x256.size a) : Memref sig .scVector .vmem S1x256 .i32 :=
  (ibufM.slice (Rect.unit (s := S2x1x256) off S1x1x256.size h) (fun _ => rfl)).squeeze S1x256 squeezes_S1x1x256_S1x256
abbrev listSlot (off : Fin 3 → ℕ) (h : ∀ a, off a + S1x1x256.size a ≤ S2x1x256.size a) : Memref sig .scVector .vmem S256 .i32 :=
  ((idxSlot off h).slice (Rect.unit (s := S1x256) ![0, 0] S1x256.size inb_S1x256_S1x256_0_0) (fun _ => rfl)).squeeze S256
    squeezes_S1x256_S256
abbrev rowSlot (off : Fin 3 → ℕ) (h : ∀ a, off a + S1x256x128.size a ≤ S2x256x128.size a) :
    Memref sig .scVector .vmem S256x128 .f32 :=
  (rbufM.slice (Rect.unit (s := S2x256x128) off S1x256x128.size h) (fun _ => rfl)).squeeze S256x128 squeezes_S1x256x128_S256x128

/-- One of the two semaphores of a pair. -/
abbrev semAt (a : DmaSems sig S2) (off : Fin 1 → ℕ) (h : ∀ a, off a + S1.size a ≤ S2.size a) : DmaSem sig :=
  ((a.slice (Rect.unit (s := S2) off S1.size h)).squeeze S_ squeezes_S1_S_).sem

/-- The slot counter `n` uses. -/
def slot (n : ℕ) : Fin 2 := ⟨n % 2, Nat.mod_lt _ Nat.two_pos⟩

theorem slot_add_two (n : ℕ) : slot (n + 1 + 1) = slot n := Fin.ext (Nat.add_mod_right n 2)

theorem inb_islot : ∀ p : Fin 2, ∀ a, (![p.val, 0, 0] : Fin 3 → ℕ) a + S1x1x256.size a ≤ S2x1x256.size a := by decide +kernel
theorem inb_rslot : ∀ p : Fin 2, ∀ a, (![p.val, 0, 0] : Fin 3 → ℕ) a + S1x256x128.size a ≤ S2x256x128.size a := by decide +kernel
theorem inb_sem : ∀ p : Fin 2, ∀ a, (![p.val] : Fin 1 → ℕ) a + S1.size a ≤ S2.size a := by decide +kernel

/-- The semaphores of the index copies and of the output copies, per slot. -/
abbrev isem (p : Fin 2) : DmaSem sig := semAt cc0_scoped1 ![p.val] (inb_sem p)
abbrev osem (p : Fin 2) : DmaSem sig := semAt cc0_scoped3 ![p.val] (inb_sem p)

/-! ## Pieces of the arrays -/

/-- Positions `[a, b)` of the flattened indices; rows `[a, b)` of the output. -/
def cols (a b : ℕ) : Finset S1x204800.Idx := Finset.univ.filter fun x => a ≤ (x 1).val ∧ (x 1).val < b
def rows (a b : ℕ) : Finset S204800x128.Idx := Finset.univ.filter fun x => a ≤ (x 0).val ∧ (x 0).val < b

/-- Slot `p` of the index scratch and of the row scratch. -/
def islot (p : Fin 2) : Finset S2x1x256.Idx := Finset.univ.filter fun x => (x 0).val = p.val
def rslot (p : Fin 2) : Finset S2x256x128.Idx := Finset.univ.filter fun x => (x 0).val = p.val

theorem mem_cols {a b : ℕ} {x : S1x204800.Idx} : x ∈ cols a b ↔ a ≤ (x 1).val ∧ (x 1).val < b := by simp [cols]
theorem mem_rows {a b : ℕ} {x : S204800x128.Idx} : x ∈ rows a b ↔ a ≤ (x 0).val ∧ (x 0).val < b := by simp [rows]
theorem mem_islot {p : Fin 2} {x : S2x1x256.Idx} : x ∈ islot p ↔ (x 0).val = p.val := by simp [islot]
theorem mem_rslot {p : Fin 2} {x : S2x256x128.Idx} : x ∈ rslot p ↔ (x 0).val = p.val := by simp [rslot]

theorem cols_union {a b c : ℕ} (h : a ≤ b) (h' : b ≤ c) : cols a c = cols a b ∪ cols b c := by
  ext x; simp only [Finset.mem_union, mem_cols]; omega
theorem cols_disjoint (a b c : ℕ) : Disjoint (cols a b) (cols b c) :=
  Finset.disjoint_left.mpr fun x h h' => by rw [mem_cols] at h h'; omega
theorem rows_union {a b c : ℕ} (h : a ≤ b) (h' : b ≤ c) : rows a c = rows a b ∪ rows b c := by
  ext x; simp only [Finset.mem_union, mem_rows]; omega
theorem rows_disjoint (a b c : ℕ) : Disjoint (rows a b) (rows b c) :=
  Finset.disjoint_left.mpr fun x h h' => by rw [mem_rows] at h h'; omega

/-- A piece of the indices is its part below `b` and its part from `b` on. -/
theorem pts_cols_split (d : Dev nD) {a b c : ℕ} (h : a ≤ b) (h' : b ≤ c) (f : Buf (Elt F) (idxLoc d)) :
    (idxLoc d ↦[cols a c]{fullShare} f : sProp 𝕄)
      = iprop((idxLoc d ↦[cols a b]{fullShare} f) ∗ idxLoc d ↦[cols b c]{fullShare} f) := by
  rw [show cols a c = cols a b ∪ cols b c from cols_union h h']
  exact Entails.antisymm (pointsTo_union (cols_disjoint a b c)).1 (pointsTo_union (cols_disjoint a b c)).2

/-- A piece of the output is its part below row `b` and its part from row `b` on. -/
theorem pts_rows_split (d : Dev nD) {a b c : ℕ} (h : a ≤ b) (h' : b ≤ c) (f : Buf (Elt F) (outLoc d)) :
    (outLoc d ↦[rows a c]{fullShare} f : sProp 𝕄)
      = iprop((outLoc d ↦[rows a b]{fullShare} f) ∗ outLoc d ↦[rows b c]{fullShare} f) := by
  rw [show rows a c = rows a b ∪ rows b c from rows_union h h']
  exact Entails.antisymm (pointsTo_union (rows_disjoint a b c)).1 (pointsTo_union (rows_disjoint a b c)).2

/-! ## What the kernel is to produce -/

/-- The rows of table `t` named by the flattened indices `x` (each taken below 100000). -/
def looked (x : S1x204800.Idx → Elt F .i32) (t : S100000x128.Idx → Elt F .f32) : S204800x128.Idx → Elt F .f32 :=
  fun y => t (ix2 ⟨(x (ix2 (0 : Fin 1) (y 0))).toNat % 100000, Nat.mod_lt _ (by decide)⟩ (y 1))

end Cert.KernelIdeal.Lookup
-- ==== Proof.Views.lean ====
/- Which elements the kernel's slices name, and what is read and written through them. -/
module

public import proofs.«01_k».proof.Proof.Setup

@[expose] public section

noncomputable section

namespace Cert.KernelIdeal.Lookup

open Cert.KernelIdeal.Gen
open Idealize.ShloMosaic Idealize.ShloMosaic.ValueIdx

variable {F : FTy → Type}

/-! ## The elements a slice names -/

theorem forall_fin_three {P : Fin 3 → Prop} : (∀ a, P a) ↔ P 0 ∧ P 1 ∧ P 2 :=
  ⟨fun h => ⟨h 0, h 1, h 2⟩, fun ⟨h0, h1, h2⟩ a => match a with | 0 => h0 | 1 => h1 | 2 => h2⟩

theorem set_idxPiece {off : Fin 2 → ℕ} {lo : ℕ} (e : off = ![0, lo]) (h) : (idxPiece off h).view.set = cols lo (lo + 256) := by
  subst e
  refine (View.set_slice_whole main_v0_scv _).trans (Finset.ext fun x => ?_)
  refine (Rect.mem_set_unit (s := S1x204800)).trans ((Fin.forall_fin_two).trans (Iff.trans ?_ mem_cols.symm))
  have : (x 0).val < 1 := (x 0).isLt
  show (0 ≤ (x 0).val ∧ (x 0).val < 0 + 1) ∧ (lo ≤ (x 1).val ∧ (x 1).val < lo + 256) ↔ _
  omega

theorem set_outPiece {off : Fin 2 → ℕ} {lo : ℕ} (e : off = ![lo, 0]) (h) : (outPiece off h).view.set = rows lo (lo + 256) := by
  subst e
  refine (View.set_slice_whole main_v1_scv _).trans (Finset.ext fun x => ?_)
  refine (Rect.mem_set_unit (s := S204800x128)).trans ((Fin.forall_fin_two).trans (Iff.trans ?_ mem_rows.symm))
  have : (x 1).val < 128 := (x 1).isLt
  show (lo ≤ (x 0).val ∧ (x 0).val < lo + 256) ∧ (0 ≤ (x 1).val ∧ (x 1).val < 0 + 128) ↔ _
  omega

theorem set_tabAll : tabAll.view.set = (Finset.univ : Finset S100000x128.Idx) := by
  refine (View.set_slice_whole main_arg1_scv _).trans (Finset.eq_univ_iff_forall.mpr fun x => ?_)
  refine (Rect.mem_set_unit (s := S100000x128)).mpr (Fin.forall_fin_two.mpr ?_)
  have h0 : (x 0).val < 100000 := (x 0).isLt
  have h1 : (x 1).val < 128 := (x 1).isLt
  show (0 ≤ (x 0).val ∧ (x 0).val < 0 + 100000) ∧ (0 ≤ (x 1).val ∧ (x 1).val < 0 + 128)
  omega

theorem set_idxSlot {off : Fin 3 → ℕ} {p : Fin 2} (e : off = ![p.val, 0, 0]) (h) : (idxSlot off h).view.set = islot p := by
  subst e
  refine (View.set_reshape _ _).trans ((View.set_slice_whole cc0_scoped0 _).trans (Finset.ext fun x => ?_))
  refine (Rect.mem_set_unit (s := S2x1x256)).trans ((forall_fin_three).trans (Iff.trans ?_ mem_islot.symm))
  have h1 : (x 1).val < 1 := (x 1).isLt
  have h2 : (x 2).val < 256 := (x 2).isLt
  show (p.val ≤ (x 0).val ∧ (x 0).val < p.val + 1) ∧ (0 ≤ (x 1).val ∧ (x 1).val < 0 + 1) ∧ (0 ≤ (x 2).val ∧ (x 2).val < 0 + 256) ↔ _
  omega

theorem set_rowSlot {off : Fin 3 → ℕ} {p : Fin 2} (e : off = ![p.val, 0, 0]) (h) : (rowSlot off h).view.set = rslot p := by
  subst e
  refine (View.set_reshape _ _).trans ((View.set_slice_whole cc0_scoped2 _).trans (Finset.ext fun x => ?_))
  refine (Rect.mem_set_unit (s := S2x256x128)).trans ((forall_fin_three).trans (Iff.trans ?_ mem_rslot.symm))
  have h1 : (x 1).val < 256 := (x 1).isLt
  have h2 : (x 2).val < 128 := (x 2).isLt
  show (p.val ≤ (x 0).val ∧ (x 0).val < p.val + 1) ∧ (0 ≤ (x 1).val ∧ (x 1).val < 0 + 256) ∧ (0 ≤ (x 2).val ∧ (x 2).val < 0 + 128) ↔ _
  omega

theorem set_listSlot {off : Fin 3 → ℕ} {p : Fin 2} (e : off = ![p.val, 0, 0]) (h) : (listSlot off h).view.set = islot p := by
  refine (View.set_reshape _ _).trans (Eq.trans ?_ (set_idxSlot e h))
  refine (View.set_slice _ _).trans ?_
  rw [show (Rect.unit (s := S1x256) ![0, 0] S1x256.size inb_S1x256_S1x256_0_0).set = Finset.univ from
    Finset.eq_univ_iff_forall.mpr fun x => by
      rw [Rect.mem_set_unit, Fin.forall_fin_two]
      have h0 : (x 0).val < 1 := (x 0).isLt
      have h1 : (x 1).val < 256 := (x 1).isLt
      show (0 ≤ (x 0).val ∧ (x 0).val < 0 + 1) ∧ (0 ≤ (x 1).val ∧ (x 1).val < 0 + 256)
      omega]
  rfl

/-! ## What is read through a slice -/

/-- Entry `x` of a piece of the indices is the index at the piece's start plus `x`. -/
theorem read_idxPiece {off : Fin 2 → ℕ} {lo : ℕ} (e : off = ![0, lo]) (h) (f : S1x204800.Idx → Elt F .i32) (x : S1x256.Idx)
    (y : S1x204800.Idx) (hy : (y 1).val = lo + (x 1).val) : (idxPiece off h).view.read (Elt F) f x = f y := by
  subst e
  refine ((View.read_apply _ _).trans (cast_eq _ _)).trans (congrArg f (funext (Fin.forall_fin_two.mpr ⟨Fin.ext ?_, Fin.ext ?_⟩)))
  · have h0 : (x 0).val < 1 := (x 0).isLt
    have h1 : (y 0).val < 1 := (y 0).isLt
    show 0 + 1 * (x 0).val = (y 0).val
    omega
  · show lo + 1 * (x 1).val = (y 1).val
    omega

/-- The table through its whole slice is the table. -/
theorem read_tabAll (f : S100000x128.Idx → Elt F .f32) : tabAll.view.read (Elt F) f = f := by
  funext x
  refine ((View.read_apply _ _).trans (cast_eq _ _)).trans (congrArg f (funext (Fin.forall_fin_two.mpr ⟨Fin.ext ?_, Fin.ext ?_⟩)))
  · show 0 + 1 * (x 0).val = (x 0).val
    omega
  · show 0 + 1 * (x 1).val = (x 1).val
    omega

/-- Entry `x` of the list a gather reads off an index slot is the slot's entry `x`. -/
theorem read_listSlot {off : Fin 3 → ℕ} (h) (g : S2x1x256.Idx → Elt F .i32) (x : S256.Idx) :
    (listSlot off h).view.read (Elt F) g x = (idxSlot off h).view.read (Elt F) g (ix2 (0 : Fin 1) (x 0)) := by
  show (idxSlot off h).view.read (Elt F) g ((Rect.unit (s := S1x256) ![0, 0] S1x256.size inb_S1x256_S1x256_0_0).emb
    (Shape.reshapeEquiv squeezes_S1x256_S256.numel_eq x)) = _
  have e : Shape.reshapeEquiv (s := S1x256) (s' := S256) squeezes_S1x256_S256.numel_eq x = ix2 (0 : Fin 1) (x 0) :=
    Shape.reshapeEquiv_eq_of_rowMajor _ (by
      refine (Shape.rowMajor_val_two (d := ![1, 256]) _).trans (Eq.trans ?_ (Shape.rowMajor_val_one (d := ![256]) x).symm)
      show 0 * 256 + (x 0).val = (x 0).val
      omega)
  refine congrArg _ ?_
  rw [show (Shape.reshapeEquiv squeezes_S1x256_S256.numel_eq x
    : (Rect.unit (s := S1x256) ![0, 0] S1x256.size inb_S1x256_S1x256_0_0).shape.Idx) = ix2 (0 : Fin 1) (x 0) from e]
  refine funext (Fin.forall_fin_two.mpr ⟨Fin.ext ?_, Fin.ext ?_⟩)
  · show 0 + 1 * 0 = 0
    omega
  · show 0 + 1 * (x 0).val = (x 0).val
    omega

/-! ## A block gathered -/

/-- The index scratch's slot `p` holds the indices from flat position `lo` on. -/
def HoldsIdx (x : S1x204800.Idx → Elt F .i32) (p : Fin 2) (lo : ℕ) (g : S2x1x256.Idx → Elt F .i32) : Prop :=
  ∀ (a : S1x256.Idx) (y : S1x204800.Idx), (y 1).val = lo + (a 1).val →
    (idxSlot ![p.val, 0, 0] (inb_islot p)).view.read (Elt F) g a = x y

/-- The row scratch's slot `p` holds rows `G` from row `lo` on. -/
def HoldsRows (G : S204800x128.Idx → Elt F .f32) (p : Fin 2) (lo : ℕ) (g : S2x256x128.Idx → Elt F .f32) : Prop :=
  ∀ (a : S256x128.Idx) (y : S204800x128.Idx), (y 0).val = lo + (a 0).val → (y 1).val = (a 1).val →
    (rowSlot ![p.val, 0, 0] (inb_rslot p)).view.read (Elt F) g a = G y

/-- Copying a piece of the indices into a slot makes the slot hold it. -/
theorem holdsIdx_write {off : Fin 2 → ℕ} {lo : ℕ} (e : off = ![0, lo]) (h) (x : S1x204800.Idx → Elt F .i32) (p : Fin 2)
    (g : S2x1x256.Idx → Elt F .i32) :
    HoldsIdx x p lo ((idxSlot ![p.val, 0, 0] (inb_islot p)).view.write (Elt F) g
      (ReadAs.same.apply ((idxPiece off h).view.read (Elt F) x)) Finset.univ) := fun a y hy => by
  rw [View.read_write_univ]
  exact read_idxPiece e h x a y hy

/-- A list whose slot holds indices below 100000 names rows of the table. -/
theorem list_lt {x : S1x204800.Idx → Elt F .i32} (hx : ∀ y, (x y).toNat < 100000) {p : Fin 2} {lo : ℕ}
    (hlo : lo + 256 ≤ 204800) {g : S2x1x256.Idx → Elt F .i32} (hg : HoldsIdx x p lo g) (a : S256.Idx) :
    ((listSlot ![p.val, 0, 0] (inb_islot p)).view.read (Elt F) g a).toNat < S100000x128.size gathers_S100000x128_S256x128.axis := by
  have ha : (a 0).val < 256 := (a 0).isLt
  rw [read_listSlot, hg (ix2 (0 : Fin 1) (a 0)) (ix2 (0 : Fin 1) ⟨lo + (a 0).val, by omega⟩) rfl]
  exact hx _

/-- The gather through such a list leaves the rows the kernel is to produce. -/
theorem holdsRows_gather {x : S1x204800.Idx → Elt F .i32} (t : S100000x128.Idx → Elt F .f32) {p p' : Fin 2} {lo : ℕ}
    {g : S2x1x256.Idx → Elt F .i32} (hg : HoldsIdx x p lo g) (r : S2x256x128.Idx → Elt F .f32) (hn)
    (hin : ∀ a, ((listSlot ![p.val, 0, 0] (inb_islot p)).view.read (Elt F) g a).toNat
      < S100000x128.size gathers_S100000x128_S256x128.axis) :
    HoldsRows (looked x t) p' lo ((rowSlot ![p'.val, 0, 0] (inb_rslot p')).view.write (Elt F) r
      (SparseCore.gatherPayload gathers_S100000x128_S256x128 (tabAll.view.read (Elt F) t)
        (SparseCore.rows ((listSlot ![p.val, 0, 0] (inb_islot p)).view.read (Elt F) g) hn hin)) Finset.univ) := by
  intro a y hy hy'
  rw [View.read_write_univ, read_tabAll]
  unfold SparseCore.gatherPayload looked
  refine congrArg t (funext (Fin.forall_fin_two.mpr ⟨Fin.ext ?_, Fin.ext ?_⟩))
  · refine (congrArg Fin.val (Shape.Gathers.idx_axis gathers_S100000x128_S256x128 _ a)).trans ?_
    have hb : ((S256.rowMajor.symm ((a 0).cast hn.symm)) 0).val = (a 0).val :=
      (Shape.rowMajor_val_one (d := ![256]) _).symm.trans (congrArg Fin.val (Equiv.apply_symm_apply S256.rowMajor _))
    have hv : (listSlot ![p.val, 0, 0] (inb_islot p)).view.read (Elt F) g (S256.rowMajor.symm ((a 0).cast hn.symm))
        = x (ix2 (0 : Fin 1) (y 0)) :=
      (read_listSlot _ g _).trans (hg _ _ (hy.trans (congrArg (lo + ·) hb.symm)))
    have hl := hin (S256.rowMajor.symm ((a 0).cast hn.symm))
    rw [hv] at hl
    exact (congrArg BitVec.toNat hv).trans (Nat.mod_eq_of_lt hl).symm
  · exact (Shape.Gathers.idx_of_ne gathers_S100000x128_S256x128 _ a 1 (by decide)).trans hy'.symm

/-- A block of the output written from a slot that holds the rows the kernel is to produce holds them. -/
theorem write_outPiece {off : Fin 2 → ℕ} {lo : ℕ} (e : off = ![lo, 0]) (h) (G f : S204800x128.Idx → Elt F .f32) {p : Fin 2}
    {r : S2x256x128.Idx → Elt F .f32} (hr : HoldsRows G p lo r) :
    ∀ y ∈ rows lo (lo + 256), (outPiece off h).view.write (Elt F) f
      (ReadAs.same.apply ((rowSlot ![p.val, 0, 0] (inb_rslot p)).view.read (Elt F) r)) Finset.univ y = G y := by
  intro y hy
  subst e
  rw [mem_rows] at hy
  have h1 : (y 1).val < 128 := (y 1).isLt
  let a : S256x128.Idx := ix2 (⟨(y 0).val - lo, by omega⟩ : Fin 256) (⟨(y 1).val, h1⟩ : Fin 128)
  have he : (outPiece ![lo, 0] h).view.emb a = y := funext (Fin.forall_fin_two.mpr ⟨Fin.ext (by
    show lo + 1 * ((y 0).val - lo) = (y 0).val
    omega), Fin.ext (by
    show 0 + 1 * (y 1).val = (y 1).val
    omega)⟩)
  rw [← he, View.write_emb_of_mem _ _ (Finset.mem_univ a)]
  refine (cast_eq _ _).trans (hr a _ ?_ ?_) <;> rw [he]
  · show (y 0).val = lo + ((y 0).val - lo)
    omega

end Cert.KernelIdeal.Lookup
-- ==== Proof.Steps.lean ====
/- The five transfers of the tile program, one rule each: a block of indices requested and received, a block of rows
   gathered, a block of the output sent and confirmed. Each is stated at whatever spelling of the offsets the program
   prints, given the offsets' values. -/
module

public import proofs.«01_k».proof.Proof.Views

@[expose] public section

noncomputable section

namespace Cert.KernelIdeal.Lookup

open Cert.KernelIdeal.Gen
open Idealize.ShloMosaic Idealize.ShloMosaic.ValueIdx
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (d : Dev nD) (L : grid0.Coords)

/-! ## Slots, pieces and copies in flight -/

/-- Slot `p` of the index scratch, holding anything; holding the indices from `lo` on. -/
def IFree (p : Fin 2) : sProp 𝕄 := iprop(∃ g : Buf (Elt F) (ibufLoc d L), ibufLoc d L ↦[islot p]{fullShare} g)
def IFull (x : S1x204800.Idx → Elt F .i32) (p : Fin 2) (lo : ℕ) : sProp 𝕄 :=
  iprop(∃ g : Buf (Elt F) (ibufLoc d L), ⌜HoldsIdx x p lo g⌝ ∗ ibufLoc d L ↦[islot p]{fullShare} g)

/-- Slot `p` of the row scratch, holding anything; holding rows `G` from `lo` on. -/
def RFree (p : Fin 2) : sProp 𝕄 := iprop(∃ g : Buf (Elt F) (rbufLoc d L), rbufLoc d L ↦[rslot p]{fullShare} g)
def RFull (G : S204800x128.Idx → Elt F .f32) (p : Fin 2) (lo : ℕ) : sProp 𝕄 :=
  iprop(∃ g : Buf (Elt F) (rbufLoc d L), ⌜HoldsRows G p lo g⌝ ∗ rbufLoc d L ↦[rslot p]{fullShare} g)

/-- Indices `[a, b)` at contents `x`, and rows `[a, b)` of the output at contents `f`, outright. -/
abbrev IPts (x : S1x204800.Idx → Elt F .i32) (a b : ℕ) : sProp 𝕄 := idxLoc d ↦[cols a b]{fullShare} x
abbrev OPts (f : S204800x128.Idx → Elt F .f32) (a b : ℕ) : sProp 𝕄 := outLoc d ↦[rows a b]{fullShare} f

/-- What a copy of one block of indices, and of one block of rows, credits its semaphore. -/
abbrev icredit : ℕ := (idxSlot ![(0 : Fin 2).val, 0, 0] (inb_islot 0)).view.dmaCredit
abbrev ocredit : ℕ := (outPiece ![0, 0] (by decide +kernel)).view.dmaCredit

/-- The copy of the block of indices from `lo` into slot `p`, under way: at its wait the slot holds them, and the block
    of the index array comes back. -/
def IFlight (x : S1x204800.Idx → Elt F .i32) (p : Fin 2) (lo : ℕ) : sProp 𝕄 :=
  Transfers.Flight countersEmb (tile d L) (.dma (isem p)) (default : HIx 1) icredit
    iprop(IFull d L x p lo ∗ IPts d x lo (lo + 256))

/-- The copy of slot `p` to the block of output rows from `lo`, under way: at its wait the block is at `G`, and the slot
    comes back. -/
def OFlight (G : S204800x128.Idx → Elt F .f32) (p : Fin 2) (lo : ℕ) : sProp 𝕄 :=
  Transfers.Flight countersEmb (tile d L) (.dma (osem p)) (default : HIx 1) ocredit
    iprop(OPts d G lo (lo + 256) ∗ RFree d L p)

variable [FloatOps F]

/-! ## The transfers -/

/-- Requesting a block of indices. -/
theorem wp_request {x : S1x204800.Idx → Elt F .i32} {p : Fin 2} {lo : ℕ} {oi : Fin 2 → ℕ} {os : Fin 3 → ℕ} {om : Fin 1 → ℕ}
    (ei : oi = ![0, lo]) (es : os = ![p.val, 0, 0]) (em : om = ![p.val]) (hi) (hs) (hm) {w₁ w₂ w₃} {Q : PUnit → sProp 𝕄} :
    iprop(IPts d x lo (lo + 256) ∗ IFree d L p ∗ semVal (tile d L, SemLoc.dma (isem p)) 0)
      ⊢ iprop((IFlight d L x p lo -∗ Q ⟨⟩)
        -∗ wp frame (wpE (defs₀ (F := F)) 𝒱₀ (tile d L) none) Set.univ
          (Prog.lift (.enqueueDma (idxPiece oi hi) (.here (idxSlot os hs)) (.dma (semAt cc0_scoped1 om hm)) w₁ w₂ w₃)) Q) := by
  subst es em
  unfold IFree IFlight Prog.lift
  iintro ⟨Hx, ⟨%g, Hg⟩, Hsem⟩ Hk
  iapply (Transfers.wp_dmaLocal countersEmb 𝒱₀ (tile d L) none (default : HIx 1) icredit
    (dst := idxSlot ![p.val, 0, 0] hs) (Sd := islot p) (fs := x) (fd := g) (q := fullShare) rfl (View.dmaCredit_pos _ (by decide))
    (set_idxSlot rfl hs).le) $$ [Hx Hg Hsem]
  · isplitl [Hx]
    · iapply (Entails.of_eq (congrArg (fun s => (idxLoc d ↦[s]{fullShare} x : sProp 𝕄)) (set_idxPiece ei hi).symm)) $$ Hx
    isplitl [Hg]; · iexact Hg
    iexact Hsem
  iintro Hf
  rw [wp_ret]; imodintro
  iapply Hk
  iapply (Transfers.Flight_mono (D' := iprop(IFull d L x p lo ∗ IPts d x lo (lo + 256))) ?_) $$ Hf
  unfold IFull
  iintro ⟨Hg, Hx⟩
  isplitl [Hg]
  · iexists _; isplitr
    swap; · iexact Hg
    ipureintro; exact holdsIdx_write ei hi x p g
  · iapply (Entails.of_eq (congrArg (fun s => (idxLoc d ↦[s]{fullShare} x : sProp 𝕄)) (set_idxPiece ei hi))) $$ Hx

/-- Receiving a block of indices. -/
theorem wp_receive {x : S1x204800.Idx → Elt F .i32} {p : Fin 2} {lo : ℕ} {os : Fin 3 → ℕ} {om : Fin 1 → ℕ}
    {src : Memref sig .scVector .hbm S1x256 .i32} (em : om = ![p.val]) (hs) (hm) {w₁ w₂} {O : CellTallies nD τ sig (HIx 1)}
    {W : Waits sig (HIx 1)} {Q : PUnit → sProp 𝕄} :
    iprop(IFlight d L x p lo ∗ owes (tile d L) O W ∗ Transfers.MayWaits (tile d L) (default : HIx 1) O)
      ⊢ iprop((iprop(IFull d L x p lo ∗ IPts d x lo (lo + 256) ∗ semVal (tile d L, SemLoc.dma (isem p)) 0
            ∗ owes (tile d L) O (insert (SemLoc.dma (isem p), default) W)) -∗ Q ⟨⟩)
        -∗ wp frame (wpE (defs₀ (F := F)) 𝒱₀ (tile d L) none) Set.univ
          (Prog.lift (.waitDma2 (semAt cc0_scoped1 om hm) src (idxSlot os hs) w₁ w₂)) Q) := by
  subst em
  unfold IFlight Prog.lift
  iintro ⟨Hf, HO, Hmw⟩ Hk
  iapply (Transfers.wp_waitLocalO countersEmb 𝒱₀ (tile d L) none (default : HIx 1) (N := icredit) (dstw := idxSlot os hs) rfl) $$ [Hf HO Hmw]
  · isplitl [Hf]; · iexact Hf
    isplitl [HO]; · iexact HO
    iapply (Transfers.MayWaits.elim (SemLoc.dma (isem p))) $$ Hmw
  iintro ⟨⟨Hg, Hx⟩, Hsem, HO⟩
  rw [wp_ret]; imodintro
  iapply Hk
  isplitl [Hg]; · iexact Hg
  isplitl [Hx]; · iexact Hx
  isplitl [Hsem]; · iexact Hsem
  iexact HO

/-- What a gather of 256 rows credits, row by row. -/
theorem gather_credit : ∑ j, ((rowSlot ![(0 : Fin 2).val, 0, 0] (inb_rslot 0)).slice
      (S256x128.rowRect gathers_S100000x128_S256x128.axis' j) (S256x128.stride_rowRect gathers_S100000x128_S256x128.axis' j)).view.dmaCredit
    = (rowSlot ![(0 : Fin 2).val, 0, 0] (inb_rslot 0)).view.dmaCredit := by
  decide +kernel

/-- Gathering the rows a slot of indices names into a slot of rows, and waiting for them. -/
theorem wp_lookup {x : S1x204800.Idx → Elt F .i32} {t : S100000x128.Idx → Elt F .f32} (hx : ∀ y, (x y).toNat < 100000)
    {p p' : Fin 2} {lo : ℕ} (hlo : lo + 256 ≤ 204800) {q : PosShare TreeShare} {oi or : Fin 3 → ℕ}
    (ei : oi = ![p.val, 0, 0]) (er : or = ![p'.val, 0, 0]) (hi) (hr) {e₁ e₂ e₃ e₄ e₅ e₆ w₁ w₂}
    {O : CellTallies nD τ sig (HIx 1)} {W : Waits sig (HIx 1)} {Q : PUnit → sProp 𝕄} :
    iprop((tabLoc d ↦{q} t) ∗ IFull d L x p lo ∗ RFree d L p' ∗ semVal (tile d L, SemLoc.dma cc0_scoped4.sem) 0
        ∗ owes (tile d L) O W ∗ Transfers.MayWaits (tile d L) (default : HIx 1) O)
      ⊢ iprop((iprop((tabLoc d ↦{q} t) ∗ IFull d L x p lo ∗ RFull d L (looked x t) p' lo
            ∗ semVal (tile d L, SemLoc.dma cc0_scoped4.sem) 0
            ∗ owes (tile d L) O (insert (SemLoc.dma cc0_scoped4.sem, default) W)) -∗ Q ⟨⟩)
        -∗ wp frame (wpE (defs₀ (F := F)) 𝒱₀ (tile d L) none) Set.univ
          (SparseCore.enqueueIndirectGather e₁ tabAll (rowSlot or hr) gathers_S100000x128_S256x128 (listSlot oi hi) e₂
            cc0_scoped4.sem e₃ e₄ e₅ e₆)
          (fun _ => wp frame (wpE (defs₀ (F := F)) 𝒱₀ (tile d L) none) Set.univ
            (SparseCore.waitIndirectGather cc0_scoped4.sem tabAll (rowSlot or hr) w₁ w₂) Q)) := by
  subst ei er
  unfold IFull RFree RFull
  iintro ⟨Ht, ⟨%g, %hg, Hg⟩, ⟨%r, Hr⟩, Hsem, HO, Hmw⟩ Hk
  iapply (SparseCore.wp_indirectGatherLocal countersEmb 𝒱₀ (tile d L) none (hg := gathers_S100000x128_S256x128) (default : HIx 1)
    (src := tabAll) (dst := rowSlot ![p'.val, 0, 0] hr) (offs := listSlot ![p.val, 0, 0] hi) (fs := t) (fd := r) (fo := g)
    (q := q) (qo := fullShare) (k := .ret) (hp := e₁) (hn := e₂) (hsrc := e₃) (he := e₄) (hsp := e₅) (hr := e₆)
    (rowSlot ![(0 : Fin 2).val, 0, 0] (inb_rslot 0)).view.dmaCredit gather_credit (by decide) (list_lt hx hlo hg)) $$ [Ht Hg Hr Hsem]
  · isplitl [Ht]
    · iapply (Entails.of_eq (congrArg (fun s => (tabLoc d ↦[s]{q} t : sProp 𝕄)) set_tabAll.symm)) $$ Ht
    isplitl [Hr]
    · iapply (Entails.of_eq (congrArg (fun s => (rbufLoc d L ↦[s]{fullShare} r : sProp 𝕄)) (set_rowSlot rfl hr).symm)) $$ Hr
    isplitl [Hg]
    · iapply (Entails.of_eq (congrArg (fun s => (ibufLoc d L ↦[s]{fullShare} g : sProp 𝕄)) (set_listSlot rfl hi).symm)) $$ Hg
    iexact Hsem
  iintro Hf
  rw [wp_ret]; imodintro
  unfold SparseCore.waitIndirectGather
  iapply (Transfers.wp_waitLocalO countersEmb 𝒱₀ (tile d L) none (default : HIx 1) (dstw := rowSlot ![p'.val, 0, 0] hr) rfl) $$ [Hf HO Hmw]
  · isplitl [Hf]; · iexact Hf
    isplitl [HO]; · iexact HO
    iapply (Transfers.MayWaits.elim (SemLoc.dma cc0_scoped4.sem)) $$ Hmw
  iintro ⟨⟨Hr, Ht, Hg⟩, Hsem, HO⟩
  rw [wp_ret]; imodintro
  iapply Hk
  isplitl [Ht]
  · iapply (Entails.of_eq (congrArg (fun s => (tabLoc d ↦[s]{q} t : sProp 𝕄)) set_tabAll)) $$ Ht
  isplitl [Hg]
  · iexists g; isplitr; · ipureintro; exact hg
    iapply (Entails.of_eq (congrArg (fun s => (ibufLoc d L ↦[s]{fullShare} g : sProp 𝕄)) (set_listSlot rfl hi))) $$ Hg
  isplitl [Hr]
  · iexists _; isplitr
    swap
    · iapply (Entails.of_eq (congrArg (fun s => (rbufLoc d L ↦[s]{fullShare} _ : sProp 𝕄)) (set_rowSlot rfl hr))) $$ Hr
    ipureintro; exact holdsRows_gather t hg r _ _
  isplitl [Hsem]; · iexact Hsem
  iexact HO

/-- Sending a slot of rows to a block of the output. -/
theorem wp_send {G f : S204800x128.Idx → Elt F .f32} {p : Fin 2} {lo : ℕ} {oo : Fin 2 → ℕ} {os : Fin 3 → ℕ} {om : Fin 1 → ℕ}
    (eo : oo = ![lo, 0]) (es : os = ![p.val, 0, 0]) (em : om = ![p.val]) (ho) (hs) (hm) {w₁ w₂ w₃} {Q : PUnit → sProp 𝕄} :
    iprop(RFull d L G p lo ∗ OPts d f lo (lo + 256) ∗ semVal (tile d L, SemLoc.dma (osem p)) 0)
      ⊢ iprop((OFlight d L G p lo -∗ Q ⟨⟩)
        -∗ wp frame (wpE (defs₀ (F := F)) 𝒱₀ (tile d L) none) Set.univ
          (Prog.lift (.enqueueDma (rowSlot os hs) (.here (outPiece oo ho)) (.dma (semAt cc0_scoped3 om hm)) w₁ w₂ w₃)) Q) := by
  subst es em
  unfold RFull OFlight Prog.lift
  iintro ⟨⟨%r, %hr, Hr⟩, Ho, Hsem⟩ Hk
  iapply (Transfers.wp_dmaLocal countersEmb 𝒱₀ (tile d L) none (default : HIx 1) ocredit (src := rowSlot ![p.val, 0, 0] hs)
    (dst := outPiece oo ho) (Sd := rows lo (lo + 256)) (fs := r) (fd := f) (q := fullShare) rfl (View.dmaCredit_pos _ (by decide))
    (set_outPiece eo ho).le) $$ [Hr Ho Hsem]
  · isplitl [Hr]
    · iapply (Entails.of_eq (congrArg (fun s => (rbufLoc d L ↦[s]{fullShare} r : sProp 𝕄)) (set_rowSlot rfl hs).symm)) $$ Hr
    isplitl [Ho]; · iexact Ho
    iexact Hsem
  iintro Hf
  rw [wp_ret]; imodintro
  iapply Hk
  iapply (Transfers.Flight_mono (D' := iprop(OPts d G lo (lo + 256) ∗ RFree d L p)) ?_) $$ Hf
  unfold RFree
  iintro ⟨Ho, Hr⟩
  isplitl [Ho]
  · iapply (Entails.of_eq (pointsTo_congr (write_outPiece eo ho G f hr))) $$ Ho
  · iexists r
    iapply (Entails.of_eq (congrArg (fun s => (rbufLoc d L ↦[s]{fullShare} r : sProp 𝕄)) (set_rowSlot rfl hs))) $$ Hr

/-- Confirming that a block of the output was sent. -/
theorem wp_confirm {G : S204800x128.Idx → Elt F .f32} {p : Fin 2} {lo : ℕ} {oo : Fin 2 → ℕ} {om : Fin 1 → ℕ}
    {src : Memref sig .scVector .vmem S256x128 .f32} (em : om = ![p.val]) (ho) (hm) {w₁ w₂} {O : CellTallies nD τ sig (HIx 1)}
    {W : Waits sig (HIx 1)} {Q : PUnit → sProp 𝕄} :
    iprop(OFlight d L G p lo ∗ owes (tile d L) O W ∗ Transfers.MayWaits (tile d L) (default : HIx 1) O)
      ⊢ iprop((iprop(OPts d G lo (lo + 256) ∗ RFree d L p ∗ semVal (tile d L, SemLoc.dma (osem p)) 0
            ∗ owes (tile d L) O (insert (SemLoc.dma (osem p), default) W)) -∗ Q ⟨⟩)
        -∗ wp frame (wpE (defs₀ (F := F)) 𝒱₀ (tile d L) none) Set.univ
          (Prog.lift (.waitDma2 (semAt cc0_scoped3 om hm) src (outPiece oo ho) w₁ w₂)) Q) := by
  subst em
  unfold OFlight Prog.lift
  iintro ⟨Hf, HO, Hmw⟩ Hk
  iapply (Transfers.wp_waitLocalO countersEmb 𝒱₀ (tile d L) none (default : HIx 1) (N := ocredit) (dstw := outPiece oo ho) rfl) $$ [Hf HO Hmw]
  · isplitl [Hf]; · iexact Hf
    isplitl [HO]; · iexact HO
    iapply (Transfers.MayWaits.elim (SemLoc.dma (osem p))) $$ Hmw
  iintro ⟨⟨Ho, Hr⟩, Hsem, HO⟩
  rw [wp_ret]; imodintro
  iapply Hk
  isplitl [Ho]; · iexact Ho
  isplitl [Hr]; · iexact Hr
  isplitl [Hsem]; · iexact Hsem
  iexact HO

end Cert.KernelIdeal.Lookup
-- ==== Proof.Tile.lean ====
/- The tile program: what its loop keeps from trip to trip, one trip, and the whole body. -/
module

public import proofs.«01_k».proof.Proof.Steps

@[expose] public section

noncomputable section

namespace Cert.KernelIdeal.Lookup

open Cert.KernelIdeal.Gen
open Idealize.ShloMosaic Idealize.ShloMosaic.ValueIdx
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (d : Dev nD) (L : grid0.Coords)

/-! ## What the loop keeps -/

/-- The request standing before trip `k`: block `k`'s, on its slot; after the last block, a free slot. -/
def Ahead (x : S1x204800.Idx → Elt F .i32) (k : ℕ) : sProp 𝕄 :=
  if k < 25 then IFlight d L x (slot k) (blk L k)
  else iprop(IFree d L (slot k) ∗ semVal (tile d L, SemLoc.dma (isem (slot k))) 0)

/-- The sending standing before trip `k`: block `k - 1`'s, on its slot; before the first block, a free slot. -/
def Behind (G : S204800x128.Idx → Elt F .f32) : ℕ → sProp 𝕄
  | 0 => iprop(RFree d L (slot 1) ∗ semVal (tile d L, SemLoc.dma (osem (slot 1))) 0)
  | k + 1 => OFlight d L G (slot k) (blk L k)

/-- Index positions not asked for before trip `k`, with the slot the next request takes. -/
def ToRequest (x : S1x204800.Idx → Elt F .i32) (k : ℕ) : sProp 𝕄 :=
  iprop(IPts d x (blk L (min (k + 1) 25)) (first L + 6400) ∗ IFree d L (slot (k + 1))
    ∗ semVal (tile d L, SemLoc.dma (isem (slot (k + 1)))) 0)

/-- Output rows confirmed before trip `k`, with the sending standing. -/
def Sent (G : S204800x128.Idx → Elt F .f32) (k : ℕ) : sProp 𝕄 :=
  iprop(OPts d G (first L) (blk L (k - 1)) ∗ Behind d L G k)

/-- The debts of the tile, and the waits it has recorded beyond `W`. -/
def Debts (O : CellTallies nD τ sig (HIx 1)) (W : Waits sig (HIx 1)) : sProp 𝕄 :=
  iprop(∃ W', ⌜∀ p ∈ W', p ∈ W ∨ p.2 = none⌝ ∗ owes (tile d L) O W')

/-- Before trip `k`: the counters; the table's share; the indices received, standing and to request; the output rows
    sent and to send, with the slot the trip gathers into; the gather's semaphore; the debts. -/
def Inv (x : S1x204800.Idx → Elt F .i32) (t : S100000x128.Idx → Elt F .f32) (f : S204800x128.Idx → Elt F .f32)
    (q : PosShare TreeShare) (O : CellTallies nD τ sig (HIx 1)) (W : Waits sig (HIx 1)) (k : ℕ)
    (acc : BitVec 32 × BitVec 32 × BitVec 32 × BitVec 32 × BitVec 32) : sProp 𝕄 :=
  iprop(⌜acc = counters k⌝ ∗ (tabLoc d ↦{q} t)
    ∗ IPts d x (first L) (blk L k) ∗ Ahead d L x k ∗ ToRequest d L x k
    ∗ Sent d L (looked x t) k ∗ OPts d f (blk L k) (first L + 6400)
    ∗ RFree d L (slot k) ∗ semVal (tile d L, SemLoc.dma (osem (slot k))) 0
    ∗ semVal (tile d L, SemLoc.dma cc0_scoped4.sem) 0
    ∗ Transfers.MayWaits (tile d L) (default : HIx 1) O ∗ Debts d L O W)

theorem ahead_zero (x : S1x204800.Idx → Elt F .i32) : (Ahead d L x 0 : sProp 𝕄) = IFlight d L x 0 (first L) := rfl

theorem behind_zero (G : S204800x128.Idx → Elt F .f32) :
    (Behind d L G 0 : sProp 𝕄) = iprop(RFree d L 1 ∗ semVal (tile d L, SemLoc.dma (osem 1)) 0) := rfl

theorem ipts_empty (x : S1x204800.Idx → Elt F .i32) (a : ℕ) : (iprop(emp) : sProp 𝕄) ⊢ IPts d x a a := by
  unfold IPts
  rw [show cols a a = ∅ from Finset.eq_empty_of_forall_notMem fun y h => by rw [mem_cols] at h; omega]
  exact Entails.of_eq pointsTo_empty.symm

theorem opts_empty (G : S204800x128.Idx → Elt F .f32) (a : ℕ) : (iprop(emp) : sProp 𝕄) ⊢ OPts d G a a := by
  unfold OPts
  rw [show rows a a = ∅ from Finset.eq_empty_of_forall_notMem fun y h => by rw [mem_rows] at h; omega]
  exact Entails.of_eq pointsTo_empty.symm

theorem debts_insert {W W' : Waits sig (HIx 1)} {s : SemLoc sig}
    (h : ∀ p ∈ W', p ∈ W ∨ p.2 = none) : ∀ p ∈ insert (s, (default : HIx 1)) W', p ∈ W ∨ p.2 = none := by
  intro p hp
  rcases Finset.mem_insert.mp hp with rfl | hp
  · exact Or.inr rfl
  · exact h p hp

theorem debts_of {O : CellTallies nD τ sig (HIx 1)} {W W' : Waits sig (HIx 1)} (h : ∀ p ∈ W', p ∈ W ∨ p.2 = none) :
    (owes (tile d L) O W' : sProp 𝕄) ⊢ Debts d L O W := by
  unfold Debts
  iintro H; iexists W'; isplitr; · ipureintro; exact h
  iexact H

theorem debts_def (O : CellTallies nD τ sig (HIx 1)) (W : Waits sig (HIx 1)) :
    (Debts d L O W : sProp 𝕄) = iprop(∃ W', ⌜∀ p ∈ W', p ∈ W ∨ p.2 = none⌝ ∗ owes (tile d L) O W') := rfl

variable [FloatOps F]

/-! ## Control -/

/-- A branch that runs `X` or nothing before the rest, when either leaves `P`. -/
theorem wp_branch {Λ : Labels} {defs : Defs nD τ sig (Elt F) Λ} {𝒱' : Variants} {thr : Thread nD τ} {bd} {α : Type} {c : Prop}
    [Decidable c] {X : c → Prog (TpuEff nD τ sig (Elt F) Λ thr.2) PUnit} {rest : Prog (TpuEff nD τ sig (Elt F) Λ thr.2) α}
    {Q : α → sProp 𝕄} (R P : sProp 𝕄)
    (ht : ∀ h, ∀ Q' : PUnit → sProp 𝕄, R ⊢ iprop((P -∗ Q' ⟨⟩) -∗ wp frame (wpE defs 𝒱' thr bd) Set.univ (X h) Q'))
    (he : ¬ c → R ⊢ P) :
    R ⊢ iprop((P -∗ wp frame (wpE defs 𝒱' thr bd) Set.univ rest Q)
      -∗ wp frame (wpE defs 𝒱' thr bd) Set.univ (dite c (fun h => X h >>= fun _ => rest) (fun _ => rest)) Q) := by
  by_cases h : c
  · rw [dif_pos h, wp_bind]
    exact ht h fun _ => wp frame (wpE defs 𝒱' thr bd) Set.univ rest Q
  · rw [dif_neg h]
    iintro HR Hk
    iapply Hk
    iapply (he h) $$ HR

/-- A bound the program assumes, where it holds. -/
theorem wp_bound {Λ : Labels} {defs : Defs nD τ sig (Elt F) Λ} {𝒱' : Variants} {thr : Thread nD τ} {bd} {P : Prop} {dec : Decidable P} (h : P)
    {Q : PLift P → sProp 𝕄} :
    Q ⟨h⟩ ⊢ wp frame (wpE defs 𝒱' thr bd) Set.univ (Prog.lift (TpuEff.assume P dec)) Q := by
  unfold Prog.lift
  iintro H
  iapply (wp_assume 𝒱' thr bd Set.univ h)
  rw [wp_ret]; imodintro; iexact H

theorem blk_succ (n : ℕ) : blk L (n + 1) = blk L n + 256 := by unfold blk; omega

/-- Requesting block `k + 1`. -/
theorem request_next (x : S1x204800.Idx → Elt F .i32) {k : ℕ} (hk : k < 24) (hi) (hs) (hm) {w₁ w₂ w₃} {Q : PUnit → sProp 𝕄} :
    ToRequest d L x k
      ⊢ iprop((iprop(Ahead d L x (k + 1) ∗ IPts d x (blk L (min (k + 2) 25)) (first L + 6400)) -∗ Q ⟨⟩)
        -∗ wp frame (wpE (defs₀ (F := F)) 𝒱₀ (tile d L) none) Set.univ
          (Prog.lift (.enqueueDma (idxPiece (k0_off5 L (BitVec.ofNat 32 k)) hi)
            (.here (idxSlot (k0_off4 (BitVec.ofNat 32 (k + 1))) hs))
            (.dma (semAt cc0_scoped1 (k0_off6 (BitVec.ofNat 32 (k + 1))) hm)) w₁ w₂ w₃)) Q) := by
  unfold ToRequest Ahead
  rw [if_pos (by omega : k + 1 < 25), Nat.min_eq_left (by omega : k + 1 ≤ 25), Nat.min_eq_left (by omega : k + 2 ≤ 25)]
  iintro ⟨Hx, Hi, Hs⟩ Hk
  ihave Hx := (Entails.of_eq (pts_cols_split d (b := blk L (k + 1) + 256) (by omega) (by unfold blk; omega) x)) $$ Hx
  icases Hx with ⟨Hx, Htodo⟩
  iapply (wp_request d L (p := slot (k + 1)) (off5_eq L ⟨k, hk⟩) (off4_eq ⟨k + 1, by omega⟩) (off6_eq ⟨k + 1, by omega⟩) hi hs hm) $$ [Hx Hi Hs]
  · isplitl [Hx]; · iexact Hx
    isplitl [Hi]; · iexact Hi
    iexact Hs
  iintro Hf
  iapply Hk
  isplitl [Hf]; · iexact Hf
  rw [blk_succ L (k + 1)]
  iexact Htodo

omit [FloatOps F] in
/-- At the last block nothing is requested. -/
theorem request_none (x : S1x204800.Idx → Elt F .i32) {k : ℕ} (hk : k = 24) :
    ToRequest d L x k ⊢ iprop(Ahead d L x (k + 1) ∗ IPts d x (blk L (min (k + 2) 25)) (first L + 6400)) := by
  subst hk
  unfold ToRequest Ahead
  rw [if_neg (by omega)]
  iintro ⟨Hx, Hi, Hs⟩
  isplitr [Hx]
  · isplitl [Hi]; · iexact Hi
    iexact Hs
  iexact Hx

/-- Confirming block `k - 1`. -/
theorem confirm_last (G : S204800x128.Idx → Elt F .f32) {k : ℕ} (hk : 0 < k) (hk' : k < 25) {src : Memref sig .scVector .vmem S256x128 .f32}
    (ho) (hm) {w₁ w₂} {O : CellTallies nD τ sig (HIx 1)} {W : Waits sig (HIx 1)} {Q : PUnit → sProp 𝕄} :
    iprop(Sent d L G k ∗ Debts d L O W ∗ Transfers.MayWaits (tile d L) (default : HIx 1) O)
      ⊢ iprop((iprop(OPts d G (first L) (blk L k) ∗ RFree d L (slot (k + 1)) ∗ semVal (tile d L, SemLoc.dma (osem (slot (k + 1)))) 0
            ∗ Debts d L O W) -∗ Q ⟨⟩)
        -∗ wp frame (wpE (defs₀ (F := F)) 𝒱₀ (tile d L) none) Set.univ
          (Prog.lift (.waitDma2 (semAt cc0_scoped3 (k0_off17 (BitVec.ofNat 32 (k - 1))) hm) src
            (outPiece (k0_off16 L (BitVec.ofNat 32 k)) ho) w₁ w₂)) Q) := by
  obtain ⟨n, rfl⟩ : ∃ n, k = n + 1 := ⟨k - 1, by omega⟩
  rw [debts_def]
  unfold Sent Behind
  iintro ⟨⟨Ho, Hf⟩, ⟨%W₁, %hW₁, HO⟩, Hmw⟩ Hk
  iapply (wp_confirm d L (p := slot n) (off17_eq ⟨n, by omega⟩) ho hm) $$ [Hf HO Hmw]
  · isplitl [Hf]; · iexact Hf
    isplitl [HO]; · iexact HO
    iexact Hmw
  iintro ⟨Hn, Hr, Hs, HO⟩
  iapply Hk
  rw [slot_add_two]
  isplitl [Ho Hn]
  · iapply (Entails.of_eq (pts_rows_split d (b := blk L n) (by unfold blk; omega) (by rw [blk_succ]; omega) G).symm)
    rw [blk_succ]
    isplitl [Ho]; · iexact Ho
    iexact Hn
  isplitl [Hr]; · iexact Hr
  isplitl [Hs]; · iexact Hs
  iexists _; isplitr
  swap; · iexact HO
  ipureintro; exact debts_insert hW₁

omit [FloatOps F] in
/-- At the first block nothing is confirmed. -/
theorem confirm_none (G : S204800x128.Idx → Elt F .f32) {k : ℕ} (hk : k = 0) {O : CellTallies nD τ sig (HIx 1)}
    {W : Waits sig (HIx 1)} :
    iprop(Sent d L G k ∗ Debts d L O W ∗ Transfers.MayWaits (tile d L) (default : HIx 1) O)
      ⊢ iprop(OPts d G (first L) (blk L k) ∗ RFree d L (slot (k + 1)) ∗ semVal (tile d L, SemLoc.dma (osem (slot (k + 1)))) 0
        ∗ Debts d L O W) := by
  subst hk
  unfold Sent Behind
  iintro ⟨⟨Ho, Hr, Hs⟩, HO, -⟩
  isplitl [Ho]; · iexact Ho
  isplitl [Hr]; · iexact Hr
  isplitl [Hs]; · iexact Hs
  iexact HO

/-! ## One trip -/

/-- One trip of the loop keeps `Inv`. -/

theorem trip {x : S1x204800.Idx → Elt F .i32} (hx : ∀ y, (x y).toNat < 100000) (t : S100000x128.Idx → Elt F .f32)
    (f : S204800x128.Idx → Elt F .f32) (q : PosShare TreeShare) (O : CellTallies nD τ sig (HIx 1)) (W : Waits sig (HIx 1))
    (k : Fin k0_t1_loop.trips) (acc : BitVec 32 × BitVec 32 × BitVec 32 × BitVec 32 × BitVec 32) :
    Inv d L x t f q O W k.val acc
      ⊢ wp frame (wpE (defs₀ (F := F)) 𝒱₀ (tile d L) none) Set.univ
          (k0_t1_body (F := F) L tabM (Memref.isWhole_whole _) idxM (Memref.isWhole_whole _) outM (Memref.isWhole_whole _)
            ibufM (Memref.isWhole_whole _) cc0_scoped1 rbufM (Memref.isWhole_whole _) cc0_scoped3 cc0_scoped4 (blockWord L) k acc)
          (Inv d L x t f q O W (k.val + 1)) := by
  have hk : k.val < 25 := lt_of_lt_of_eq k.isLt trips_eq
  have hL := first_le L
  unfold Inv
  iintro ⟨%hacc, Ht, Hdone, Hahead, Hreq, Hsent, Hout, Hr, Hos, Hg4, #Hmw, HO⟩
  subst hacc
  rw [counters_of_lt hk]
  unfold k0_t1_body
  rw [k0_part1_eq_skeleton]
  unfold k0_part1_skel
  simp only [wp_bind, ite_self]
  iapply (wp_bound (chk3_holds ⟨k, by omega⟩))
  iapply (wp_bound (chk2_holds ⟨k, by omega⟩))
  iapply (wp_bound (chk1_holds L k))
  -- the next block of indices is requested, unless this is the last block
  iapply (wp_branch (ToRequest d L x k.val) (iprop(Ahead d L x (k.val + 1) ∗ IPts d x (blk L (min (k.val + 2) 25)) (first L + 6400)))
    ?_ ?_) $$ [Hreq]
  · intro h Q'
    exact request_next d L x ((cond1_iff L k).mp h) _ _ _
  · intro h
    exact request_none d L x (by have := mt (cond1_iff L k).mpr h; omega)
  · iexact Hreq
  iintro ⟨Hahead', Htodo⟩
  simp only [wp_pure]
  imodintro
  have hnext := nextCounters_eq L k
  simp only [nextCounters] at hnext
  simp only [wp_bind, dif_pos (cond5_true L k), hnext]
  rw [k0_part2_eq_skeleton]
  unfold k0_part2_skel
  simp only [wp_bind, ite_self, dif_pos (cond2_true L k)]
  -- block `k` of the indices is received
  ihave HO := (Entails.of_eq (debts_def d L O W)) $$ HO
  icases HO with ⟨%W₁, %hW₁, HO⟩
  ihave Hahead := (Entails.of_eq (show Ahead d L x k = IFlight d L x (slot k) (blk L k) from if_pos hk)) $$ Hahead
  iapply (wp_receive d L (p := slot k) (off9_eq ⟨k, by omega⟩) _ _) $$ [Hahead HO]
  · isplitl [Hahead]; · iexact Hahead
    isplitl [HO]; · iexact HO
    iexact Hmw
  iintro ⟨Hi, Hx, His, HO⟩
  -- its rows are gathered
  iapply (wp_lookup d L hx (p := slot k) (p' := slot k) (show blk L k + 256 ≤ 204800 by unfold blk; omega) (off11_eq ⟨k, by omega⟩) (off10_eq ⟨k, by omega⟩) _ _)
    $$ [Ht Hi Hr Hg4 HO]
  · isplitl [Ht]; · iexact Ht
    isplitl [Hi]; · iexact Hi
    isplitl [Hr]; · iexact Hr
    isplitl [Hg4]; · iexact Hg4
    isplitl [HO]; · iexact HO
    iexact Hmw
  iintro ⟨Ht, Hi, Hr, Hg4, HO⟩
  simp only [wp_pure]; imodintro
  -- and sent to block `k` of the output
  ihave Hout := (Entails.of_eq (pts_rows_split d (b := blk L k + 256) (by omega) (by unfold blk; omega) f)) $$ Hout
  icases Hout with ⟨Hok, Hout⟩
  iapply (wp_send d L (p := slot k) (off13_eq L ⟨k, by omega⟩) (off12_eq ⟨k, by omega⟩) (off14_eq ⟨k, by omega⟩) _ _ _) $$ [Hr Hok Hos]
  · isplitl [Hr]; · iexact Hr
    isplitl [Hok]; · iexact Hok
    iexact Hos
  iintro Hof
  -- block `k - 1` of the output is confirmed, if there is one
  ihave HO := (debts_of d L (debts_insert (debts_insert hW₁))) $$ HO
  iapply (wp_branch (iprop(Sent d L (looked x t) k ∗ Debts d L O W ∗ Transfers.MayWaits (tile d L) (default : HIx 1) O))
    (iprop(OPts d (looked x t) (first L) (blk L k) ∗ RFree d L (slot (k + 1))
      ∗ semVal (tile d L, SemLoc.dma (osem (slot (k + 1)))) 0 ∗ Debts d L O W)) ?_ ?_) $$ [Hsent HO]
  · intro h Q'
    exact confirm_last d L (looked x t) ((cond7_iff L k).mp h) hk _ _
  · intro h
    exact confirm_none d L (looked x t) (by have := mt (cond7_iff L k).mpr h; omega)
  · isplitl [Hsent]; · iexact Hsent
    isplitl [HO]; · iexact HO
    iexact Hmw
  iintro ⟨Hconf, Hr, Hos, HO⟩
  simp only [wp_pure]; imodintro
  isplitr; · ipureintro; trivial
  isplitl [Ht]; · iexact Ht
  isplitl [Hdone Hx]
  · iapply (Entails.of_eq (pts_cols_split d (b := blk L k) (by unfold blk; omega) (by rw [blk_succ]; omega) x).symm)
    rw [blk_succ]
    isplitl [Hdone]; · iexact Hdone
    iexact Hx
  isplitl [Hahead']; · iexact Hahead'
  isplitl [Htodo Hi His]
  · unfold ToRequest IFull IFree
    rw [slot_add_two]
    icases Hi with ⟨%g, -, Hi⟩
    isplitl [Htodo]; · iexact Htodo
    isplitl [Hi]; · iexists g; iexact Hi
    iexact His
  isplitl [Hconf Hof]
  · unfold Sent Behind
    isplitl [Hconf]; · iexact Hconf
    iexact Hof
  isplitl [Hout]; · rw [blk_succ]; iexact Hout
  isplitl [Hr]; · iexact Hr
  isplitl [Hos]; · iexact Hos
  isplitl [Hg4]; · iexact Hg4
  isplitr; · iexact Hmw
  iexact HO

/-! ## The whole tile -/

/-- The tile program, given its block of the indices, its rows of the output, a share of the table and its scratch: every
    index copy, gather and output copy it starts is waited for, and its rows of the output are the rows of the table that
    its indices name. -/
theorem body {x : S1x204800.Idx → Elt F .i32} (hx : ∀ y, (x y).toNat < 100000) (t : S100000x128.Idx → Elt F .f32)
    (f : S204800x128.Idx → Elt F .f32) (q : PosShare TreeShare) (O : CellTallies nD τ sig (HIx 1)) (W : Waits sig (HIx 1)) :
    iprop((tabLoc d ↦{q} t) ∗ IPts d x (first L) (first L + 6400) ∗ OPts d f (first L) (first L + 6400)
        ∗ IFree d L 0 ∗ IFree d L 1 ∗ RFree d L 0 ∗ RFree d L 1
        ∗ semVal (tile d L, SemLoc.dma (isem 0)) 0 ∗ semVal (tile d L, SemLoc.dma (isem 1)) 0
        ∗ semVal (tile d L, SemLoc.dma (osem 0)) 0 ∗ semVal (tile d L, SemLoc.dma (osem 1)) 0
        ∗ semVal (tile d L, SemLoc.dma cc0_scoped4.sem) 0
        ∗ Transfers.MayWaits (tile d L) (default : HIx 1) O ∗ owes (tile d L) O W)
      ⊢ wp frame (wpE (defs₀ (F := F)) 𝒱₀ (tile d L) none) Set.univ
          (cc0_k (F := F) L tabM (Memref.isWhole_whole _) idxM (Memref.isWhole_whole _) outM (Memref.isWhole_whole _)
            ibufM (Memref.isWhole_whole _) cc0_scoped1 rbufM (Memref.isWhole_whole _) cc0_scoped3 cc0_scoped4)
          (fun _ => iprop((tabLoc d ↦{q} t) ∗ IPts d x (first L) (first L + 6400) ∗ OPts d (looked x t) (first L) (first L + 6400)
            ∗ IFree d L 0 ∗ IFree d L 1 ∗ RFree d L 0 ∗ RFree d L 1
            ∗ semVal (tile d L, SemLoc.dma (isem 0)) 0 ∗ semVal (tile d L, SemLoc.dma (isem 1)) 0
            ∗ semVal (tile d L, SemLoc.dma (osem 0)) 0 ∗ semVal (tile d L, SemLoc.dma (osem 1)) 0
            ∗ semVal (tile d L, SemLoc.dma cc0_scoped4.sem) 0 ∗ Debts d L O W)) := by
  have hL := first_le L
  rw [cc0_k_eq_skeleton]
  unfold cc0_k_skel
  simp only [wp_bind]
  rw [k0_part3_eq_skeleton]
  unfold k0_part3_skel
  simp only [wp_bind]
  iintro ⟨Ht, Hx, Ho, Hi0, Hi1, Hr0, Hr1, His0, His1, Hos0, Hos1, Hg, #Hmw, HO⟩
  -- block 0 of the indices is requested
  ihave Hx := (Entails.of_eq (pts_cols_split d (b := first L + 256) (by omega) (by omega) x)) $$ Hx
  icases Hx with ⟨Hx, Hxs⟩
  iapply (wp_request d L (p := 0) (lo := first L) (k0_off2_eq L) k0_off1_eq k0_off3_eq _ _ _) $$ [Hx Hi0 His0]
  · isplitl [Hx]; · iexact Hx
    isplitl [Hi0]; · iexact Hi0
    iexact His0
  iintro Hf
  simp only [wp_pure]; imodintro
  rw [k0_part4_eq_skeleton]
  unfold k0_part4_skel
  simp only [wp_bind]
  iapply (Scf.wp_for _ _ _ _ _ _ _ _ _ (Inv d L x t f q O W) (trip d L hx t f q O W))
  isplitl [Ht Hf Hxs Ho Hi1 Hr0 Hr1 His1 Hos0 Hos1 Hg HO]
  · unfold Inv Sent ToRequest
    isplitr; · ipureintro; rfl
    isplitl [Ht]; · iexact Ht
    isplitr
    · iapply (ipts_empty d x (first L))
      iempintro
    isplitl [Hf]; · iapply (Entails.of_eq (ahead_zero d L x).symm) $$ Hf
    isplitl [Hxs Hi1 His1]
    · isplitl [Hxs]; · iexact Hxs
      isplitl [Hi1]; · iexact Hi1
      iexact His1
    isplitl [Hr1 Hos1]
    · isplitr
      · iapply (opts_empty d (looked x t) (first L))
        iempintro
      iapply (Entails.of_eq (behind_zero d L (looked x t)).symm)
      isplitl [Hr1]; · iexact Hr1
      iexact Hos1
    isplitl [Ho]; · iexact Ho
    isplitl [Hr0]; · iexact Hr0
    isplitl [Hos0]; · iexact Hos0
    isplitl [Hg]; · iexact Hg
    isplitr; · iexact Hmw
    iapply (debts_of d L (fun _ h => Or.inl h)) $$ HO
  iintro %acc HI
  rw [show Scf.trips k0_t1_loop.lb k0_t1_loop.ub k0_t1_loop.st = 25 from trips_eq]
  unfold Inv ToRequest Sent
  icases HI with ⟨%hacc, Ht, Hx, Hahead, ⟨-, Hi0, His0⟩, ⟨Ho, Hf⟩, -, Hr1, Hos1, Hg, -, HO⟩
  subst hacc
  ihave Hahead := (Entails.of_eq (show Ahead d L x 25
    = iprop(IFree d L (slot 25) ∗ semVal (tile d L, SemLoc.dma (isem (slot 25))) 0) from if_neg (by omega))) $$ Hahead
  icases Hahead with ⟨Hi1, His1⟩
  iapply (wp_bound (chk5_holds L))
  iapply (wp_bound chk4_holds)
  rw [wp_pure]; imodintro
  -- the last block of the output is confirmed
  ihave HO := (Entails.of_eq (debts_def d L O W)) $$ HO
  icases HO with ⟨%W₁, %hW₁, HO⟩
  ihave Hf := (Entails.of_eq (show Behind d L (looked x t) 25 = OFlight d L (looked x t) (slot 24) (blk L 24) from rfl)) $$ Hf
  iapply (wp_confirm d L (p := slot 24) (lo := blk L 24) (off20_eq ⟨24, by omega⟩) _ _) $$ [Hf HO]
  · isplitl [Hf]; · iexact Hf
    isplitl [HO]; · iexact HO
    iexact Hmw
  iintro ⟨Ho', Hr0, Hos0, HO⟩
  imodintro
  isplitl [Ht]; · iexact Ht
  isplitl [Hx]; · iexact Hx
  isplitl [Ho Ho']
  · iapply (Entails.of_eq (pts_rows_split d (b := blk L 24) (by unfold blk; omega) (by unfold blk; omega) (looked x t)).symm)
    isplitl [Ho]; · iexact Ho
    iexact Ho'
  isplitl [Hi0]; · iexact Hi0
  isplitl [Hi1]; · iexact Hi1
  isplitl [Hr0]; · iexact Hr0
  isplitl [Hr1]; · iexact Hr1
  isplitl [His0]; · iexact His0
  isplitl [His1]; · iexact His1
  isplitl [Hos0]; · iexact Hos0
  isplitl [Hos1]; · iexact Hos1
  isplitl [Hg]; · iexact Hg
  iapply (debts_of d L (debts_insert hW₁)) $$ HO

end Cert.KernelIdeal.Lookup
-- ==== Proof.Launch.lean ====
/- The launch of the lookup kernel: what the call hands each SparseCore and each tile and what they hand back, the tile's
   run as the launch asks for it, and the dealing of a SparseCore's part among its 16 tiles. -/
module

public import proofs.«01_k».proof.Proof.Tile

@[expose] public section

noncomputable section

namespace Cert.KernelIdeal.Lookup

open Cert.KernelIdeal.Gen
open Idealize.ShloMosaic Idealize.ShloMosaic.ValueIdx
open Idealize.ShloMosaic.SparseCore (S V)
open Idealize.ShloMosaic.SparseCore.Cfg (HIx mem_ownCells ownRefs ownCells ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Parts of the arrays and their dealing -/

/-- A worker's part: share `q` of the table, the `n` indices from position `a`, the `n` output rows from row `a`. -/
def Part (d : Dev nD) (x : Buf (Elt F) (idxLoc d)) (t : Buf (Elt F) (tabLoc d)) (f : Buf (Elt F) (outLoc d))
    (q : PosShare TreeShare) (a n : ℕ) : sProp 𝕄 :=
  iprop((tabLoc d ↦{q} t) ∗ IPts d x a (a + n) ∗ OPts d f a (a + n))

theorem part_def (d : Dev nD) (x : Buf (Elt F) (idxLoc d)) (t : Buf (Elt F) (tabLoc d)) (f : Buf (Elt F) (outLoc d))
    (q : PosShare TreeShare) (a n : ℕ) :
    Part d x t f q a n = iprop((tabLoc d ↦{q} t) ∗ IPts d x a (a + n) ∗ OPts d f a (a + n)) := rfl

instance part_storable (d : Dev nD) (x : Buf (Elt F) (idxLoc d)) (t : Buf (Elt F) (tabLoc d)) (f : Buf (Elt F) (outLoc d))
    (q : PosShare TreeShare) (a n : ℕ) : BI.Storable (upEmb : UEmb _ 𝕄) (Part d x t f q a n) := by
  unfold Part IPts OPts; infer_instance

/-- `x` lies among the `n * w` numbers from `a` exactly when it lies in one of `n` consecutive runs of `w`. -/
theorem in_run (w n a x : ℕ) :
    (a ≤ x ∧ x < a + n * w) ↔ ∃ i : Fin n, w * i.val + a ≤ x ∧ x < w * i.val + a + w := by
  constructor
  · rintro ⟨h, h'⟩
    have hw : 0 < w := by
      rcases Nat.eq_zero_or_pos w with rfl | hw
      · omega
      · exact hw
    have hm := Nat.div_add_mod (x - a) w
    have hl := Nat.mod_lt (x - a) hw
    exact ⟨⟨(x - a) / w, (Nat.div_lt_iff_lt_mul hw).2 (by omega)⟩, by simp only; omega, by simp only; omega⟩
  · rintro ⟨i, h, h'⟩
    have hi : w * i.val + w ≤ w * n := by
      rw [← Nat.mul_succ]; exact Nat.mul_le_mul_left _ i.isLt
    rw [Nat.mul_comm n w]
    omega

/-- The runs are disjoint. -/
theorem run_unique {w a x i j : ℕ} (h : w * i + a ≤ x) (h' : x < w * i + a + w) (g : w * j + a ≤ x) (g' : x < w * j + a + w) :
    i = j := by
  rcases Nat.lt_trichotomy i j with hij | hij | hij
  · have := Nat.mul_le_mul_left w (show i + 1 ≤ j from hij)
    rw [Nat.mul_succ] at this; omega
  · exact hij
  · have := Nat.mul_le_mul_left w (show j + 1 ≤ i from hij)
    rw [Nat.mul_succ] at this; omega

/-- A part is the parts of `n` workers at once, each with its run of `w` indices and rows and its piece of the table's
    share. -/
theorem part_deal (d : Dev nD) (x : Buf (Elt F) (idxLoc d)) (t : Buf (Elt F) (tabLoc d)) (f : Buf (Elt F) (outLoc d))
    (q : PosShare TreeShare) (a w n : ℕ) [NeZero n] :
    Part d x t f q a (n * w)
      = bigSep Finset.univ fun i : Fin n => Part d x t f (Transfers.dealOf q Finset.univ i) (w * i.val + a) w := by
  unfold Part IPts OPts
  rw [bigSep_sep', bigSep_sep']
  congr 1
  · exact Transfers.pointsTo_deal Finset.univ ⟨0, Finset.mem_univ _⟩ q
  congr 1
  · rw [← pointsTo_biUnion (ℓ := idxLoc d) Finset.univ (fun i : Fin n => cols (w * i.val + a) (w * i.val + a + w))]
    · congr 1; ext y
      simp only [Finset.mem_biUnion, Finset.mem_univ, true_and]
      exact mem_cols.trans ((in_run w n a (y 1).val).trans (exists_congr fun i => mem_cols.symm))
    · refine fun i _ j _ hij => Finset.disjoint_left.mpr fun y hy hy' => hij ?_
      rw [mem_cols] at hy hy'
      exact Fin.ext (run_unique hy.1 hy.2 hy'.1 hy'.2)
  · rw [← pointsTo_biUnion (ℓ := outLoc d) Finset.univ (fun i : Fin n => rows (w * i.val + a) (w * i.val + a + w))]
    · congr 1; ext y
      simp only [Finset.mem_biUnion, Finset.mem_univ, true_and]
      exact mem_rows.trans ((in_run w n a (y 0).val).trans (exists_congr fun i => mem_rows.symm))
    · refine fun i _ j _ hij => Finset.disjoint_left.mpr fun y hy hy' => hij ?_
      rw [mem_rows] at hy hy'
      exact Fin.ext (run_unique hy.1 hy.2 hy'.1 hy'.2)

/-! ## What the handshakes carry -/

/-- The table's share a SparseCore holds, and the one a tile of it holds. -/
def coreShare (c : Fin 2) : PosShare TreeShare := Transfers.dealOf fullShare Finset.univ c
def tileShare (c : Fin 2) (i : Fin 16) : PosShare TreeShare := Transfers.dealOf (coreShare c) Finset.univ i

/-- The indices in row-major order, as `@main` hands them to the call. -/
def flat (a : S4096x50.Idx → Elt F .i32) : S1x204800.Idx → Elt F .i32 := shapeCast S1x204800 a shapeCasts_S4096x50_S1x204800

variable (m : (ℓ : Loc nD τ sig) → Buf (Elt F) ℓ)

abbrev argLoc (d : Dev nD) : Loc nD τ sig := (SparseCore.T d).loc main_arg0
abbrev resLoc (d : Dev nD) : Loc nD τ sig := (SparseCore.T d).loc main_v2

/-- The call's inputs and the rows it is to produce, from the launch memory. -/
def xs (d : Dev nD) : Buf (Elt F) (idxLoc d) := flat (m (argLoc d))
def found (d : Dev nD) : Buf (Elt F) (outLoc d) := looked (xs m d) (m (tabLoc d))

theorem nSub_zero : (K (F := F)).nSub 0 = 16 := rfl
theorem nCore_zero : (K (F := F)).nCore 0 = 2 := rfl

/-- SparseCore `c`'s part of the call, and tile `i`'s part of that, with the output holding `f`. -/
abbrev corePart (d : Dev nD) (f : Buf (Elt F) (outLoc d)) (c : Fin 2) : sProp 𝕄 :=
  Part d (xs m d) (m (tabLoc d)) f (coreShare c) (102400 * c.val) 102400
abbrev tilePart (d : Dev nD) (f : Buf (Elt F) (outLoc d)) (c : Fin 2) (i : Fin 16) : sProp 𝕄 :=
  Part d (xs m d) (m (tabLoc d)) f (tileShare c i) (6400 * i.val + 102400 * c.val) 6400

/-- The call hands each SparseCore, and each SparseCore each tile, its part with the output at its launch contents, and
    takes it back with the rows found. -/
def P : (K (F := F)).Pay (nD := nD) (Val := Elt F) (Name := ℕ) (U := UU) where
  st := fun q d c => match q with | 0 => corePart m d (m (outLoc d)) (Fin.cast nCore_zero c)
  dn := fun q d c => match q with | 0 => corePart m d (found m d) (Fin.cast nCore_zero c)
  go := fun q d c i => match q with | 0 => tilePart m d (m (outLoc d)) (Fin.cast nCore_zero c) (Fin.cast nSub_zero i)
  td := fun q d c i => match q with | 0 => tilePart m d (found m d) (Fin.cast nCore_zero c) (Fin.cast nSub_zero i)
  x := fun _ _ => iprop(emp)

instance P_storable : (P (F := F) m).IsStorable where
  st q d c := match q with | 0 => part_storable d _ _ _ _ _ _
  dn q d c := match q with | 0 => part_storable d _ _ _ _ _ _
  go q d c i := match q with | 0 => part_storable d _ _ _ _ _ _
  td q d c i := match q with | 0 => part_storable d _ _ _ _ _ _

/-- What is asked of the launch memory: every index is below 100000. -/
def PreOK : Prop := ∀ (d : Dev nD) (j : S4096x50.Idx), (m (argLoc d) j).toNat < 100000

theorem xs_lt (h : PreOK m) (d : Dev nD) (y : S1x204800.Idx) : (xs m d y).toNat < 100000 := h d _

/-! ## A tile's own buffers and semaphores -/

section Tile

variable (d : Dev nD) (L : grid0.Coords)

/-- A DMA semaphore of the tile at `L`. -/
abbrev cell (s : DmaSem sig) : GSem nD τ sig := (tile d L, SemLoc.dma s)

theorem cell_own (s : DmaSem sig) (h : (SemLoc.dma s : SemLoc sig).isScoped .scVector = true) :
    cell d L s ∈ ownCells (tile d L) := mem_ownCells.mpr ⟨rfl, h⟩

theorem cell_ne {s s' : DmaSem sig} (h : s ≠ s') : cell d L s ≠ cell d L s' :=
  fun e => h (SemLoc.dma.inj (congrArg Prod.snd e))

/-- The tile's semaphores at zero: the five the kernel uses, and the rest. -/
theorem ownSems0_tile :
    (ownSems0 (tile d L) : sProp 𝕄)
      = iprop(semVal (cell d L (isem 0)) 0 ∗ semVal (cell d L (isem 1)) 0 ∗ semVal (cell d L (osem 0)) 0
          ∗ semVal (cell d L (osem 1)) 0 ∗ semVal (cell d L cc0_scoped4.sem) 0
          ∗ bigSep ((((((ownCells (tile d L)).erase (cell d L (isem 0))).erase (cell d L (isem 1))).erase
              (cell d L (osem 0))).erase (cell d L (osem 1))).erase (cell d L cc0_scoped4.sem)) fun g => semVal g 0) := by
  unfold SparseCore.Cfg.ownSems0
  rw [SparseCore.bigSep_erase' (cell_own d L (isem 0) (by decide +kernel)),
    SparseCore.bigSep_erase' (i := cell d L (isem 1)), SparseCore.bigSep_erase' (i := cell d L (osem 0)),
    SparseCore.bigSep_erase' (i := cell d L (osem 1)), SparseCore.bigSep_erase' (i := cell d L cc0_scoped4.sem)]
  all_goals
    repeat refine Finset.mem_erase.mpr ⟨cell_ne d L (by decide +kernel), ?_⟩
    exact cell_own d L _ (by decide +kernel)

/-- The tile's own buffers: the two scratch buffers, at some contents, and the rest. -/
theorem ownBufs_tile :
    (ownBufs (tile d L) : sProp 𝕄)
      = iprop((∃ g, ibufLoc d L ↦{fullShare} g) ∗ (∃ g, rbufLoc d L ↦{fullShare} g)
          ∗ bigSep (((ownRefs (τ := τ) (tile d L).2).erase ((tile d L).2.devRef cc0_scoped0)).erase
              ((tile d L).2.devRef cc0_scoped2)) fun b => iprop(∃ g, ((d, b) : Loc nD τ sig) ↦{fullShare} g)) := by
  unfold SparseCore.Cfg.ownBufs
  refine (SparseCore.bigSep_erase' (SparseCore.Cfg.mem_ownRefs_of_owner (p := (tile d L).2)
    (b := (tile d L).2.devRef cc0_scoped0) rfl)).trans ?_
  rw [SparseCore.bigSep_erase' (Finset.mem_erase.mpr
    ⟨fun e => absurd (Proc.devRef_injective _ e) (show (cc0_scoped2 : Ref sig .scVector) ≠ cc0_scoped0 by decide),
      SparseCore.Cfg.mem_ownRefs_of_owner (p := (tile d L).2) (b := (tile d L).2.devRef cc0_scoped2) rfl⟩)]

theorem islot_disjoint : Disjoint (islot 0) (islot 1) :=
  Finset.disjoint_left.mpr fun y h h' => absurd ((mem_islot.mp h).symm.trans (mem_islot.mp h')) (by decide)
theorem rslot_disjoint : Disjoint (rslot 0) (rslot 1) :=
  Finset.disjoint_left.mpr fun y h h' => absurd ((mem_rslot.mp h).symm.trans (mem_rslot.mp h')) (by decide)

theorem two_slots (n : Fin 2) : n.val = (0 : Fin 2).val ∨ n.val = (1 : Fin 2).val := by
  revert n; decide

theorem islot_univ : islot 0 ∪ islot 1 = Finset.univ := Finset.eq_univ_iff_forall.mpr fun y => by
  rw [Finset.mem_union, mem_islot, mem_islot]; exact two_slots (y 0)
theorem rslot_univ : rslot 0 ∪ rslot 1 = Finset.univ := Finset.eq_univ_iff_forall.mpr fun y => by
  rw [Finset.mem_union, mem_rslot, mem_rslot]; exact two_slots (y 0)

/-- The index scratch, at some contents, is its two slots, each at some contents. -/
theorem ibuf_slots : (iprop(∃ g, ibufLoc d L ↦{fullShare} g) : sProp 𝕄) ⊣⊢ iprop(IFree d L 0 ∗ IFree d L 1) := by
  unfold IFree
  constructor
  · iintro ⟨%g, H⟩
    ihave H' := (Entails.of_eq (show (ibufLoc d L ↦{fullShare} g : sProp 𝕄) = ibufLoc d L ↦[islot 0 ∪ islot 1]{fullShare} g by
      rw [islot_univ])) $$ H
    ihave H'' := (pointsTo_union (ℓ := ibufLoc d L) islot_disjoint).1 $$ H'
    icases H'' with ⟨H0, H1⟩
    isplitl [H0] <;> iexists g <;> iassumption
  · iintro ⟨⟨%g, H0⟩, %g', H1⟩
    ihave H := (pointsTo_join (ℓ := ibufLoc d L) islot_disjoint) $$ [H0 H1]; · isplitl [H0] <;> iassumption
    iexists _
    iapply (Entails.of_eq (show (ibufLoc d L ↦[islot 0 ∪ islot 1]{fullShare} _ : sProp 𝕄) = ibufLoc d L ↦{fullShare} _ by
      rw [islot_univ])) $$ H

/-- The row scratch, likewise. -/
theorem rbuf_slots : (iprop(∃ g, rbufLoc d L ↦{fullShare} g) : sProp 𝕄) ⊣⊢ iprop(RFree d L 0 ∗ RFree d L 1) := by
  unfold RFree
  constructor
  · iintro ⟨%g, H⟩
    ihave H' := (Entails.of_eq (show (rbufLoc d L ↦{fullShare} g : sProp 𝕄) = rbufLoc d L ↦[rslot 0 ∪ rslot 1]{fullShare} g by
      rw [rslot_univ])) $$ H
    ihave H'' := (pointsTo_union (ℓ := rbufLoc d L) rslot_disjoint).1 $$ H'
    icases H'' with ⟨H0, H1⟩
    isplitl [H0] <;> iexists g <;> iassumption
  · iintro ⟨⟨%g, H0⟩, %g', H1⟩
    ihave H := (pointsTo_join (ℓ := rbufLoc d L) rslot_disjoint) $$ [H0 H1]; · isplitl [H0] <;> iassumption
    iexists _
    iapply (Entails.of_eq (show (rbufLoc d L ↦[rslot 0 ∪ rslot 1]{fullShare} _ : sProp 𝕄) = rbufLoc d L ↦{fullShare} _ by
      rw [rslot_univ])) $$ H

variable [FloatOps F]

/-- The kernel on the tile at `L`, from its part and its own buffers and semaphores: it ends with the part's output rows
    holding the rows found, everything else as it was. -/
theorem tile_body {x : Buf (Elt F) (idxLoc d)} (hx : ∀ y, (x y).toNat < 100000) (t : Buf (Elt F) (tabLoc d))
    (f : Buf (Elt F) (outLoc d)) (q : PosShare TreeShare) (O : CellTallies nD τ sig (HIx 1)) (W : Waits sig (HIx 1))
    (hO : ∀ g, O g none = 0) :
    iprop(levAts (K (F := F)).L (K (F := F)).lev ∗ emp ∗ Part d x t f q (first L) 6400
        ∗ scopedBufs (tile d L) ∗ scopedSems0 (tile d L) ∗ owes (tile d L) O W)
      ⊢ wp frame (wpE (defs₀ (F := F)) 𝒱₀ (tile d L) none) Set.univ
          (cc0_k (F := F) L tabM (Memref.isWhole_whole _) idxM (Memref.isWhole_whole _) outM (Memref.isWhole_whole _)
            ibufM (Memref.isWhole_whole _) cc0_scoped1 rbufM (Memref.isWhole_whole _) cc0_scoped3 cc0_scoped4)
          (fun _ => iprop(Part d x t (looked x t) q (first L) 6400 ∗ scopedBufs (tile d L) ∗ scopedSems0 (tile d L)
            ∗ ∃ W', ⌜∀ p ∈ W', p ∈ W ∨ p.2 = none⌝ ∗ owes (tile d L) O W')) := by
  rw [(K (F := F)).scopedBufs_V facts d, SparseCore.Cfg.scopedSems0_V (Val := Elt F) d, ownSems0_tile, ownBufs_tile]
  simp only [part_def]
  iintro ⟨#Hlv, -, ⟨Ht, Hi, Ho⟩, ⟨Hib, Hrb, Hbufs⟩, ⟨Hs0, Hs1, Hs2, Hs3, Hs4, Hsems⟩, HO⟩
  ihave Hmw := (show levAts (K (F := F)).L (K (F := F)).lev ⊢ Transfers.MayWaits (tile d L) (default : HIx 1) O from
    (K (F := F)).mayWaits_none (thr := tile d L) hO) $$ Hlv
  ihave Hib' := (ibuf_slots (F := F) d L).1 $$ Hib
  icases Hib' with ⟨Hi0, Hi1⟩
  ihave Hrb' := (rbuf_slots (F := F) d L).1 $$ Hrb
  icases Hrb' with ⟨Hr0, Hr1⟩
  ihave Hrun := (body d L hx t f q O W) $$ [Ht Hi Ho Hi0 Hi1 Hr0 Hr1 Hs0 Hs1 Hs2 Hs3 Hs4 Hmw HO]
  · isplitl [Ht]; · iexact Ht
    isplitl [Hi]; · iexact Hi
    isplitl [Ho]; · iexact Ho
    isplitl [Hi0]; · iexact Hi0
    isplitl [Hi1]; · iexact Hi1
    isplitl [Hr0]; · iexact Hr0
    isplitl [Hr1]; · iexact Hr1
    isplitl [Hs0]; · iexact Hs0
    isplitl [Hs1]; · iexact Hs1
    isplitl [Hs2]; · iexact Hs2
    isplitl [Hs3]; · iexact Hs3
    isplitl [Hs4]; · iexact Hs4
    isplitl [Hmw]; · iexact Hmw
    iexact HO
  iapply (wp_wand frame (wpE (defs₀ (F := F)) 𝒱₀ (tile d L) none) Set.univ) $$ [Hrun]; · iexact Hrun
  iintro %_ ⟨Ht, Hi, Ho, Hi0, Hi1, Hr0, Hr1, Hs0, Hs1, Hs2, Hs3, Hs4, HO⟩
  isplitl [Ht Hi Ho]
  · isplitl [Ht]; · iexact Ht
    isplitl [Hi]; · iexact Hi
    iexact Ho
  isplitl [Hi0 Hi1 Hr0 Hr1 Hbufs]
  · isplitl [Hi0 Hi1]
    · iapply (ibuf_slots (F := F) d L).2; isplitl [Hi0] <;> iassumption
    isplitl [Hr0 Hr1]
    · iapply (rbuf_slots (F := F) d L).2; isplitl [Hr0] <;> iassumption
    iexact Hbufs
  isplitl [Hs0 Hs1 Hs2 Hs3 Hs4 Hsems]
  · isplitl [Hs0]; · iexact Hs0
    isplitl [Hs1]; · iexact Hs1
    isplitl [Hs2]; · iexact Hs2
    isplitl [Hs3]; · iexact Hs3
    isplitl [Hs4]; · iexact Hs4
    iexact Hsems
  iapply (Entails.of_eq (debts_def (F := F) d L O W)); iexact HO

end Tile

end Cert.KernelIdeal.Lookup
-- ==== Proof.Run.lean ====
/- The whole program's run: each tile as the launch asks for it, `@main` (the indices flattened, the call, the rows found
   reshaped) and the memory every run ends with. -/
module

public import proofs.«01_k».proof.Proof.Launch

@[expose] public section

noncomputable section

namespace Cert.KernelIdeal.Lookup

open Cert.KernelIdeal.Gen
open Idealize.ShloMosaic Idealize.ShloMosaic.ValueIdx Idealize.ShloMosaic.StableHlo
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

/-! ## The dealings -/

/-- The call's operands whole are the two SparseCores' parts. -/
theorem whole_cores (d : Dev nD) (f : Buf (Elt F) (outLoc d)) :
    (iprop((tabLoc d ↦{fullShare} m (tabLoc d)) ∗ (idxLoc d ↦{fullShare} xs m d) ∗ outLoc d ↦{fullShare} f) : sProp 𝕄)
      = bigSep Finset.univ fun c : Fin 2 => corePart m d f c := by
  rw [show (bigSep Finset.univ fun c : Fin 2 => corePart m d f c) = Part d (xs m d) (m (tabLoc d)) f fullShare 0 (2 * 102400) from
      (part_deal d (xs m d) (m (tabLoc d)) f fullShare 0 102400 2).symm, part_def]
  have hc : cols 0 (0 + 2 * 102400) = Finset.univ := Finset.eq_univ_iff_forall.mpr fun y =>
    mem_cols.mpr ⟨Nat.zero_le _, (y 1).isLt⟩
  have hr : rows 0 (0 + 2 * 102400) = Finset.univ := Finset.eq_univ_iff_forall.mpr fun y =>
    mem_rows.mpr ⟨Nat.zero_le _, (y 0).isLt⟩
  unfold IPts OPts
  rw [hc, hr]

/-- A SparseCore's part is its 16 tiles' parts. -/
theorem core_tiles (d : Dev nD) (f : Buf (Elt F) (outLoc d)) (c : Fin 2) :
    (corePart m d f c : sProp 𝕄) = bigSep Finset.univ fun i : Fin 16 => tilePart m d f c i :=
  part_deal d (xs m d) (m (tabLoc d)) f (coreShare c) (102400 * c.val) 6400 16

/-- A SparseCore deals its part to its tiles and joins what they bring back. -/
theorem vecSplit : (K (F := F)).VecSplit' (P m) 0 := by
  intro d c
  show (corePart m d (m (outLoc d)) (Fin.cast nCore_zero c) : sProp 𝕄)
    ⊢ |={Set.univ}=> iprop((bigSep (Finset.univ : Finset (Fin 16)) fun i => tilePart m d (m (outLoc d)) (Fin.cast nCore_zero c) i)
      ∗ ((bigSep (Finset.univ : Finset (Fin 16)) fun i => tilePart m d (found m d) (Fin.cast nCore_zero c) i)
        -∗ corePart m d (found m d) (Fin.cast nCore_zero c)))
  rw [core_tiles m d (m (outLoc d)), core_tiles m d (found m d)]
  iintro H; imodintro
  isplitl [H]; · iexact H
  iintro H; iexact H

variable [FloatOps F]

/-! ## The tiles -/

/-- The coordinates of tile `s` of SparseCore `c`. -/
def coords (c : Fin (grid0.bound 0)) (s : Fin (grid0.bound 1)) : grid0.Coords :=
  fun | 0 => c | 1 => s | ⟨_ + 2, h⟩ => absurd h (Nat.not_lt.2 (Nat.le_add_left _ _))

/-- What a tile runs. -/
theorem defs₀_tile (c : Fin τ.nSC) (s : Fin τ.nSub) :
    defs₀ (F := F) (.scVector c s) 0 ()
      = SparseCore.onTile hcore0 hsub0 (fun c s => cc0_k (F := F) (coords c s)
          tabM (Memref.isWhole_whole _) idxM (Memref.isWhole_whole _) outM (Memref.isWhole_whole _)
          ibufM (Memref.isWhole_whole _) cc0_scoped1 rbufM (Memref.isWhole_whole _) cc0_scoped3 cc0_scoped4) ⟨⟩ c s := rfl

/-- The record of waits, in the wording of the launch. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  have weaken (W' : Waits sig (HIx 1)) (h : ∀ p ∈ W', p ∈ W ∨ p.2 = none) : ∀ p ∈ W', p ∈ W ∨ p.2 = none ∨ p.2 = some q :=
    fun p hp => (h p hp).imp_right Or.inl
  iintro ⟨HA, HB, HC, %W', %hW', HO⟩
  isplitl [HA]; · iexact HA
  isplitl [HB]; · iexact HB
  isplitl [HC]; · iexact HC
  iexists W'; isplitr; · ipureintro; exact weaken W' hW'
  iexact HO

set_option maxRecDepth 16384 in
/-- Every tile does what the launch asks of it. -/
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (tile_body d (coords ⟨_, hci.1⟩ ⟨_, hci.2⟩) (xs_lt m hpre d) (m (tabLoc d)) (m (outLoc d))
    (tileShare (Fin.cast nCore_zero c) (Fin.cast nSub_zero i)) O W hO).trans (wp_mono frame _ _ fun _ => obl_post)

/-! ## The launch element -/

/-- The handshakes' rounds; nothing of the kernel's own. -/
def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  rw [show (bigSep Finset.univ fun thr : Thread nD τ => bigSep Finset.univ fun q : Fin 1 => ((P m).x q thr : sProp 𝕄)) = iprop(emp) from
    (bigSep_congr fun _ _ => bigSep_emp_const _).trans (bigSep_emp_const _),
    show (bigSep Finset.univ fun _ : Dev nD => (iprop(emp) : sProp 𝕄)) = iprop(emp) from bigSep_emp_const _]
  unfold u₀
  iintro Hu
  ihave H := (ownU_pair _ _) $$ Hu
  icases H with ⟨HH, -⟩
  imodintro
  isplitl [HH]; · iexact HH
  isplitr <;> iempintro

/-! ## `@main` -/

/-- The five arrays of `@main`, as buffers of the device. -/
abbrev a' : DevRef τ sig := Proc.devRef .tc (main_arg0 : Ref sig .tc)
abbrev t' : DevRef τ sig := Proc.devRef .tc (main_arg1 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev arrays : Finset (DevRef τ sig) := {a', t', x', o', r'}

/-- The operations before and after the call. -/
abbrev opFlat : HloOp τ sig (Elt F) := StableHlo.reshape main_arg0 main_v0 (rfl) shapeCasts_S4096x50_S1x204800
abbrev opShape : HloOp τ sig (Elt F) := StableHlo.reshape main_v1 main_v2 (rfl) shapeCasts_S204800x128_S4096x50x128

theorem held_arrays (d : Dev nD) (W : Valuation τ sig (Elt F)) :
    (held (SparseCore.T d) arrays W : sProp 𝕄)
      = iprop((argLoc d ↦{fullShare} W a') ∗ (tabLoc d ↦{fullShare} W t') ∗ (idxLoc d ↦{fullShare} W x')
          ∗ (outLoc d ↦{fullShare} W o') ∗ resLoc d ↦{fullShare} W r') := by
  unfold held arrays
  rw [SparseCore.bigSep_insert' (by decide), SparseCore.bigSep_insert' (by decide), SparseCore.bigSep_insert' (by decide),
    SparseCore.bigSep_insert' (by decide), bigSep_singleton]

/-- The launch contents; the contents after the call. -/
def V0 (d : Dev nD) : Valuation τ sig (Elt F) := fun b => m (d, b)
def V1 (d : Dev nD) : Valuation τ sig (Elt F) := Function.update ((opFlat (F := F)).result (V0 m d)) o' (found m d)

theorem unscoped_held (d : Dev nD) :
    (unscopedBufs d (fun b => m ((SparseCore.T d).loc b)) : sProp 𝕄) = held (SparseCore.T d) arrays (V0 m d) := by
  rw [held_arrays]
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]
  rfl

/-- The result the program leaves: row `50 b + s` of the rows found at `(b, s)`. -/
def result (d : Dev nD) : Buf (Elt F) (resLoc d) :=
  shapeCast S4096x50x128 (found m d) shapeCasts_S204800x128_S4096x50x128

theorem flat_of_ne (d : Dev nD) {b : DevRef τ sig} (h : b ≠ x') : (opFlat (F := F)).result (V0 m d) b = m (d, b) :=
  HloOp.result_of_not_mem _ _ (by rw [reshape_writes, Finset.mem_singleton]; exact h)
theorem flat_x (d : Dev nD) : (opFlat (F := F)).result (V0 m d) x' = xs m d :=
  reshape_result main_arg0 main_v0 _ _ _ _ (V0 m d)

theorem V1_of_ne (d : Dev nD) {b : DevRef τ sig} (h : b ≠ o') : V1 m d b = (opFlat (F := F)).result (V0 m d) b :=
  Function.update_of_ne h _ _
theorem V1_o (d : Dev nD) : V1 m d o' = found m d := Function.update_self _ _ _

theorem shape_of_ne (d : Dev nD) {b : DevRef τ sig} (h : b ≠ r') : (opShape (F := F)).result (V1 m d) b = V1 m d b :=
  HloOp.result_of_not_mem _ _ (by rw [reshape_writes, Finset.mem_singleton]; exact h)
theorem shape_r (d : Dev nD) : (opShape (F := F)).result (V1 m d) r' = result m d :=
  (reshape_result main_v1 main_v2 _ _ _ _ (V1 m d)).trans (by
    show (fun i => shapeCast S4096x50x128 (V1 m d o') shapeCasts_S204800x128_S4096x50x128 i) = _
    rw [V1_o]; rfl)

/-- What a device ends with: its arguments at their launch contents, its result at `result`. -/
def Fin' (d : Dev nD) : sProp 𝕄 :=
  iprop((argLoc d ↦{fullShare} m (argLoc d)) ∗ (tabLoc d ↦{fullShare} m (tabLoc d)) ∗ resLoc d ↦{fullShare} result m d)

theorem hFlat : (opFlat (F := F)).bufs ⊆ arrays := show ({a', x'} : Finset (DevRef τ sig)) ⊆ arrays by decide
theorem hShape : (opShape (F := F)).bufs ⊆ arrays := show ({o', r'} : Finset (DevRef τ sig)) ⊆ arrays by decide

/-- `@main` on a device: the indices flattened, the call made over the flattened indices, the table and the output whole,
    the rows found reshaped. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ Fin' m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opFlat) (S := arrays) hFlat (V := V0 m d)) $$ [Hb Hheld]
  · isplitl [Hb] <;> iassumption
  iintro ⟨Hb, Hheld⟩
  rw [wp_ret]; imodintro
  ihave Hh := (Entails.of_eq (held_arrays (F := F) d _)) $$ Hheld
  rw [flat_of_ne m d (show a' ≠ x' by decide), flat_of_ne m d (show t' ≠ x' by decide), flat_x,
    flat_of_ne m d (show o' ≠ x' by decide), flat_of_ne m d (show r' ≠ x' by decide)]
  icases Hh with ⟨Ha, Ht, Hx, Ho, Hr⟩
  iapply ((K (F := F)).wp_run (D (F := F)) 𝒱 (EH := EH) (P := P m) κ d 0) $$ [Hst Hb Hts Ha Ht Hx Ho Hr]
  isplitr; · iexact Hctx
  isplitl [Hst]; · iexact Hst
  isplitl [Ht Hx Ho]
  · iapply (Entails.of_eq (whole_cores m d (m (outLoc d))))
    isplitl [Ht]; · iexact Ht
    isplitl [Hx] <;> iassumption
  iintro ⟨Hst, Hdn⟩
  ihave Hdn' := (show (bigSep Finset.univ fun c : Fin ((K (F := F)).nCore 0) => ((P m).dn 0 d c : sProp 𝕄)) ⊢ _ from
    Entails.of_eq (whole_cores m d (found m d)).symm) $$ Hdn
  icases Hdn' with ⟨Ht, Hx, Ho⟩
  iapply (wp_hlo_within 𝒱 (SparseCore.T d) none Set.univ (op := opShape) (S := arrays) hShape (V := V1 m d)) $$ [Hb Ha Ht Hx Ho Hr]
  · isplitl [Hb]; · iexact Hb
    rw [held_arrays, V1_o, V1_of_ne m d (show a' ≠ o' by decide), V1_of_ne m d (show t' ≠ o' by decide),
      V1_of_ne m d (show x' ≠ o' by decide), V1_of_ne m d (show r' ≠ o' by decide),
      flat_of_ne m d (show a' ≠ x' by decide), flat_of_ne m d (show t' ≠ x' by decide), flat_x,
      flat_of_ne m d (show r' ≠ x' by decide)]
    isplitl [Ha]; · iexact Ha
    isplitl [Ht]; · iexact Ht
    isplitl [Hx]; · iexact Hx
    isplitl [Ho]; · iexact Ho
    iexact Hr
  iintro ⟨Hb, Hheld⟩
  ihave Hh := (Entails.of_eq (held_arrays (F := F) d _)) $$ Hheld
  rw [shape_r, shape_of_ne m d (show a' ≠ r' by decide), shape_of_ne m d (show t' ≠ r' by decide),
    V1_of_ne m d (show a' ≠ o' by decide), V1_of_ne m d (show t' ≠ o' by decide),
    flat_of_ne m d (show a' ≠ x' by decide), flat_of_ne m d (show t' ≠ x' by decide)]
  icases Hh with ⟨Ha, Ht, -, -, Hr⟩
  rw [wp_ret]; imodintro; imodintro
  isplitl [Hst]; · iexact Hst
  isplitl [Ha Ht Hr]
  · unfold Fin'
    isplitl [Ha]; · iexact Ha
    isplitl [Ht] <;> iassumption
  isplitl [Hb] <;> iassumption

/-! ## The run -/

/-- What a device's memory ends with. -/
def Ends (d : Dev nD) (mem : (ℓ : Loc nD τ sig) → Buf (Elt F) ℓ) : Prop :=
  mem (argLoc d) = m (argLoc d) ∧ mem (tabLoc d) = m (tabLoc d) ∧ mem (resLoc d) = result m d

theorem hfin (d : Dev nD) (s' : Phys nD τ sig (Elt F)) :
    iprop(Fin' m d ∗ SI s') ⊢ (⌜Ends m d s'.mem.mem⌝ : sProp 𝕄) := by
  have read (ℓ : Loc nD τ sig) (f : Buf (Elt F) ℓ) : iprop(SI s' ∗ ℓ ↦{fullShare} f) ⊢ (⌜s'.mem.mem ℓ = f⌝ : sProp 𝕄) :=
    (SI_pointsTo_agree (st := s') (ℓ := ℓ) (I := Finset.univ) (q := fullShare) (f := f)).trans
      (BI.pure_mono fun h => funext fun i => h i (Finset.mem_univ i))
  unfold Fin'
  iintro ⟨⟨Ha, Ht, Hr⟩, HSI⟩
  ihave H := (persistent_entails_right (read (argLoc d) _)) $$ [HSI Ha]; · isplitl [HSI] <;> iassumption
  icases H with ⟨%ha, HSI, -⟩
  ihave H := (persistent_entails_right (read (tabLoc d) _)) $$ [HSI Ht]; · isplitl [HSI] <;> iassumption
  icases H with ⟨%ht, HSI, -⟩
  ihave H := (read (resLoc d) _) $$ [HSI Hr]; · isplitl [HSI] <;> iassumption
  icases H with %hr
  ipureintro; exact ⟨ha, ht, hr⟩

/-- Every run of the program from a launch memory whose indices are in range ends, without a fault, with the arguments
    unchanged, the result as `result` says and every semaphore at zero. -/
theorem run_main [∀ e, Nonempty (Elt F e)] (hpre : PreOK m) :
    θ_run (Cert.KernelIdeal.defs (F := F)) (Cert.KernelIdeal.threads (F := F)) ⟨m, fun _ => 0, ρ⟩
      (fun r => (∀ d : Dev nD, Ends m d r.2.mem) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (Fin' m) (u₀ (F := F)) (sep_elim_left.trans (hu₀ m)) (hmain m ρ)
    (fun d s' => Ends m d s'.mem.mem) (hfin m) _ (fun _ h hz => ⟨h, hz⟩)

end Cert.KernelIdeal.Lookup
-- ==== Proof.Values.lean ====
/- The values: the reference's term and the kernel's result are both, at every index, the table's row named by the index
   there; and what the precondition says of the indices. -/
module

public import proofs.«01_k».proof.Proof.Run
public import proofs.«01_k».proof.Proof.Gen.ReferenceIdeal.Run
public import proofs.«01_k».proof.Proof.Gen.Pre_in_range
public import Idealize.ShloMosaic.Lib.ReduceAll
public import Idealize.ShloMosaic.Lib.ValueIdxCore
public import Idealize.ShloMosaic.Lib.Pipeline.Value

@[expose] public section

noncomputable section

namespace Cert.ReferenceIdeal.Lookup

open Cert.ReferenceIdeal Cert.ReferenceIdeal.Gen Idealize.ShloMosaic Idealize.ShloMosaic.ValueIdx

variable {F : FTy → Type}

/-- The lookup in plain words: at `(b, s, e)`, element `e` of the table's row `x (b, s)` (taken below 100000). -/
def picked (x : IVec S4096x50 32) (t : FVec F S100000x128 .f32) : FVec F S4096x50x128 .f32 :=
  fun y => t (ix2 ⟨(x (ix2 (y 0) (y 1))).toNat % 100000, Nat.mod_lt _ (by decide)⟩ (y 2))

/-- An index word below 100000, read as a signed integer, is the number it is. -/
theorem toInt_of_lt {v : BitVec 32} (h : v.toNat < 100000) : v.toInt = (v.toNat : ℤ) := by
  rw [BitVec.toInt_eq_toNat_cond, if_pos (by omega)]

/-- The position of a result element among the indices, with the unit axis the gather reads them by. -/
def at3 (y : S4096x50x128.Idx) : S4096x50x1.Idx :=
  fun a => match a with | 0 => y 0 | 1 => y 1 | 2 => (0 : Fin 1)

/-- The gather's dimension numbers, by a short name. -/
abbrev dims : GatherDims S100000x128 S4096x50x1 S4096x50x128 := gather_S100000x128_S4096x50x1_S4096x50x128_2_0_n_n_0_2_1128

/-- The gather at `(b, s, e)` is element `e` of the row its index there names, read signed and held within the table. -/
theorem gather_at (t : FVec F S100000x128 .f32) (x : IVec S4096x50x1 32) (y : S4096x50x128.Idx) :
    Host.gather dims t x y = t (ix2 ⟨min (x (at3 y)).toInt.toNat 99999, by omega⟩ (y 2)) := by
  unfold Host.gather
  refine congrArg t (funext fun a => Fin.ext ?_)
  show dims.start y x a + dims.batchCoord y a + dims.offCoord y a = _
  rw [GatherDims.batchCoord_eq_zero _ _ _ List.not_mem_nil, Nat.add_zero]
  match a with
  | 0 =>
    have kept : (0 : Fin 2) ∉ dims.sKept := fun h => ((GatherDims.mem_sKept _ _).mp h).1 (List.mem_singleton.mpr rfl)
    have mapped : (0 : Fin 2) ∈ dims.startIndexMap := List.mem_singleton.mpr rfl
    rw [GatherDims.offCoord_eq_zero _ _ _ kept, Nat.add_zero]
    unfold GatherDims.start
    rw [dif_pos mapped]
    have hi : dims.siIdx y ⟨List.idxOf (0 : Fin 2) dims.startIndexMap, List.idxOf_lt_length_iff.2 mapped⟩ = at3 y := by
      funext b; apply Fin.ext
      match b with
      | 0 => rfl
      | 1 => rfl
      | 2 => rfl
    rw [hi]; rfl
  | 1 =>
    have notMapped : (1 : Fin 2) ∉ dims.startIndexMap := fun h => absurd (List.mem_singleton.mp h) (by decide)
    unfold GatherDims.start
    rw [dif_neg notMapped, Nat.zero_add]
    rfl

/-- With every index in range, none is negative, so the reference's wrapped indices are the indices. -/
theorem wrapped_eq {x : IVec S4096x50 32} (hx : ∀ j, (x j).toNat < 100000) (b : IVec S4096x50 32) :
    select (cmpi .slt x (broadcastInDim S4096x50 ![] bcast_S_S4096x50 (constantI S_ 32 0#32))) b x = x := by
  funext j
  have h : ¬ IntOp.cmpi .slt (x j) 0#32 = 1#1 := by
    rw [IntOp.cmpi_slt, toInt_of_lt (hx j)]; simp
  show Scalar.select (IntOp.cmpi .slt (x j) 0#32) (b j) (x j) = x j
  rw [eq_zero_of_ne_one h, select_zero]

/-- The reference's term, with every index in range, is the lookup. -/
theorem taken_eq [FloatOps F] {x : IVec S4096x50 32} (hx : ∀ j, (x j).toNat < 100000) (t : FVec F S100000x128 .f32) :
    select (broadcastInDim S4096x50x128 ![0, 1] bcast_S4096x50_S4096x50x128_0_1 (Host.reduce IntOp.andi (andi (cmpi .sge (broadcastInDim S4096x50x1 ![0, 1] bcast_S4096x50_S4096x50x1_0_1 (select (cmpi .slt x (broadcastInDim S4096x50 ![] bcast_S_S4096x50 (constantI S_ 32 0#32))) (addi x (broadcastInDim S4096x50 ![] bcast_S_S4096x50 (constantI S_ 32 100000#32))) x)) (broadcastInDim S4096x50x1 ![] bcast_S_S4096x50x1 (constantI S_ 32 0#32))) (cmpi .sle (broadcastInDim S4096x50x1 ![0, 1] bcast_S4096x50_S4096x50x1_0_1 (select (cmpi .slt x (broadcastInDim S4096x50 ![] bcast_S_S4096x50 (constantI S_ 32 0#32))) (addi x (broadcastInDim S4096x50 ![] bcast_S_S4096x50 (constantI S_ 32 100000#32))) x)) (broadcastInDim S4096x50x1 ![0, 1, 2] bcast_S1x1x1_S4096x50x1_0_1_2 (broadcastInDim S1x1x1 ![2] bcast_S1_S1x1x1_2 (constantI S1 32 99999#32))))) (constantI S_ 1 1#1) reducesTo_S4096x50x1_S4096x50_d2 h_S_)) (Host.gather gather_S100000x128_S4096x50x1_S4096x50x128_2_0_n_n_0_2_1128 t (broadcastInDim S4096x50x1 ![0, 1] bcast_S4096x50_S4096x50x1_0_1 (select (cmpi .slt x (broadcastInDim S4096x50 ![] bcast_S_S4096x50 (constantI S_ 32 0#32))) (addi x (broadcastInDim S4096x50 ![] bcast_S_S4096x50 (constantI S_ 32 100000#32))) x))) (broadcastInDim S4096x50x128 ![] bcast_S_S4096x50x128 (constant S_ .f32 0x7FC00000#32))
      = picked x t := by
  rw [wrapped_eq hx]
  funext y
  have lift (z : S4096x50x1.Idx) : broadcastInDim S4096x50x1 ![0, 1] bcast_S4096x50_S4096x50x1_0_1 x z = x (ix2 (z 0) (z 1)) :=
    broadcastInDim_apply _ _ x z _ fun a => match a with | 0 => rfl | 1 => rfl
  rw [select_apply]
  have mask : broadcastInDim S4096x50x128 ![0, 1] bcast_S4096x50_S4096x50x128_0_1 (Host.reduce IntOp.andi (andi (cmpi .sge (broadcastInDim S4096x50x1 ![0, 1] bcast_S4096x50_S4096x50x1_0_1 x) (broadcastInDim S4096x50x1 ![] bcast_S_S4096x50x1 (constantI S_ 32 0#32))) (cmpi .sle (broadcastInDim S4096x50x1 ![0, 1] bcast_S4096x50_S4096x50x1_0_1 x) (broadcastInDim S4096x50x1 ![0, 1, 2] bcast_S1x1x1_S4096x50x1_0_1_2 (broadcastInDim S1x1x1 ![2] bcast_S1_S1x1x1_2 (constantI S1 32 99999#32))))) (constantI S_ 1 1#1) reducesTo_S4096x50x1_S4096x50_d2 h_S_) y = 1#1 := by
    refine Host.reduce_andi_one _ _ _ _ _ rfl fun z => ?_
    have h := toInt_of_lt (hx (ix2 (z 0) (z 1)))
    have h' := hx (ix2 (z 0) (z 1))
    refine IntOp.andi_eq_one.mpr ⟨IntOp.cmpi_sge.mpr ?_, IntOp.cmpi_sle.mpr ?_⟩
    · rw [lift, h]
      show (0#32 : BitVec 32).toInt ≤ _
      rw [show (0#32 : BitVec 32).toInt = 0 by decide]; omega
    · rw [lift, h]
      show _ ≤ (99999#32 : BitVec 32).toInt
      rw [show (99999#32 : BitVec 32).toInt = 99999 by decide]; omega
  rw [mask, select_one, gather_at]
  have h := hx (ix2 (y 0) (y 1))
  refine congrArg t (congrArg (fun r => ix2 r (y 2)) (Fin.ext ?_))
  show min (broadcastInDim S4096x50x1 ![0, 1] bcast_S4096x50_S4096x50x1_0_1 x (at3 y)).toInt.toNat 99999
    = (x (ix2 (y 0) (y 1))).toNat % 100000
  rw [show broadcastInDim S4096x50x1 ![0, 1] bcast_S4096x50_S4096x50x1_0_1 x (at3 y) = x (ix2 (y 0) (y 1)) from lift (at3 y),
    toInt_of_lt h, Int.toNat_natCast, Nat.mod_eq_of_lt h]
  omega

/-- The precondition says that every index is below 100000. -/
theorem lt_of_in_range [FloatOps F] {x : IVec S4096x50 32} {t : FVec F S100000x128 .f32}
    (h : Cert.Pre_in_range.fn (F := F) x t = fun _ => 1#1) (j : S4096x50.Idx) : (x j).toNat < 100000 := by
  haveI : Subsingleton Cert.Pre_in_range.S_.Idx := ⟨fun a b => funext fun i => i.elim0⟩
  have h0 := Host.reduce_andi_all _ _ _ _ (Shape.Idx.first Cert.Pre_in_range.Facts.h_S_) (congrFun h _) j
  obtain ⟨h1, h2⟩ := IntOp.andi_eq_one.mp h0
  have h1 : (0#32 : BitVec 32).toInt ≤ (x j).toInt := IntOp.cmpi_sge.mp h1
  have h2 : (x j).toInt < (100000#32 : BitVec 32).toInt := IntOp.cmpi_slt.mp h2
  rw [show (0#32 : BitVec 32).toInt = 0 by decide] at h1
  rw [show (100000#32 : BitVec 32).toInt = 100000 by decide] at h2
  rw [BitVec.toInt_eq_toNat_cond] at h1 h2
  split at h1 <;> omega

end Cert.ReferenceIdeal.Lookup

namespace Cert.KernelIdeal.Lookup

open Idealize.ShloMosaic Idealize.ShloMosaic.ValueIdx

variable {F : FTy → Type} (m : (ℓ : Loc nD τ sig) → Buf (Elt F) ℓ)

/-- Position `50 b + s` of the flattened indices is the index at `(b, s)`. -/
theorem flat_at (x : S4096x50.Idx → Elt F .i32) (b : Fin 4096) (s : Fin 50) (h : 50 * b.val + s.val < 204800) :
    flat x (ix2 (0 : Fin 1) (⟨50 * b.val + s.val, h⟩ : Fin 204800)) = x (ix2 b s) := by
  refine shapeCast_apply x _ _ _ ?_
  refine (Shape.rowMajor_val_two (d := ![4096, 50]) _).trans (Eq.trans ?_ (Shape.rowMajor_val_two (d := ![1, 204800]) _).symm)
  show b.val * 50 + s.val = 0 * 204800 + (50 * b.val + s.val)
  omega

/-- The kernel's result is the lookup. -/
theorem result_eq (d : Dev nD) : result m d = Cert.ReferenceIdeal.Lookup.picked (m (argLoc d)) (m (tabLoc d)) := by
  funext y
  have h0 : (y 0).val < 4096 := (y 0).isLt
  have h1 : (y 1).val < 50 := (y 1).isLt
  have hr : 50 * (y 0).val + (y 1).val < 204800 := by omega
  refine (shapeCast_apply (found m d) _ y (ix2 (⟨50 * (y 0).val + (y 1).val, hr⟩ : Fin 204800) (y 2)) ?_).trans ?_
  · refine (Shape.rowMajor_val_two (d := ![204800, 128]) _).trans (Eq.trans ?_ (Shape.rowMajor_val_three (d := ![4096, 50, 128]) y).symm)
    show (50 * (y 0).val + (y 1).val) * 128 + (y 2).val = ((y 0).val * 50 + (y 1).val) * 128 + (y 2).val
    rw [Nat.mul_comm 50]
  · refine congrArg (m (tabLoc d)) (congrArg (fun r => ix2 r (y 2)) (Fin.ext ?_))
    exact congrArg (fun v : BitVec 32 => v.toNat % 100000) (flat_at (m (argLoc d)) (y 0) (y 1) hr)

end Cert.KernelIdeal.Lookup
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Gen.Pre_in_range
public import proofs.«01_k».proof.Proof.Values
public import Idealize.ShloMosaic.Adequacy
public import Idealize.ShloMosaic.Init

@[expose] public section

noncomputable section

namespace Cert.Proof

open Idealize.ShloMosaic Idealize.SL.Sem
open Cert.KernelIdeal.Lookup (PreOK run_main result result_eq argLoc tabLoc resLoc)
open Cert.ReferenceIdeal.Lookup (picked taken_eq lt_of_in_range)

/-- The precondition puts every index of the launch memory in range. -/
theorem ok_kernelIdeal {m : (ℓ : Loc Cert.KernelIdeal.nD Cert.KernelIdeal.τ Cert.KernelIdeal.sig) → Buf (Elt Ideal) ℓ}
    (h : Cert.Pre_KernelIdeal m) : PreOK m := fun d j => lt_of_in_range (h d) j

/-- The same of the kernel as printed. -/
theorem ok_kernel {m : (ℓ : Loc Cert.Kernel.nD Cert.Kernel.τ Cert.Kernel.sig) → Buf (Elt Bits) ℓ}
    (h : Cert.Pre_Kernel m) : PreOK (F := Bits) m := fun d j => lt_of_in_range (h d) j

/-- The kernel read over the extended reals runs, leaves its arguments and ends quiet. -/
theorem frame_kernelIdeal : Cert.quiescent_KernelIdeal := fun m ρ hpre =>
  (θ_run Cert.KernelIdeal.defs _ _).mono (fun _ h => ⟨fun c => ⟨(h.1 c).1, (h.1 c).2.1⟩, h.2⟩)
    (run_main (F := Ideal) m ρ (ok_kernelIdeal hpre))

/-- The kernel as printed runs, leaves its arguments and ends quiet: the same run at the machine's floats. -/
theorem frame_kernel : Cert.quiescent_Kernel := fun m ρ hpre =>
  (θ_run Cert.KernelIdeal.defs _ _).mono (fun _ h => ⟨fun c => ⟨(h.1 c).1, (h.1 c).2.1⟩, h.2⟩)
    (run_main (F := Bits) m ρ (ok_kernel hpre))

/-- The reference read over the extended reals runs, leaves its arguments and ends quiet: it has no semaphores. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference as printed runs, leaves its arguments and ends quiet. -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- The reference, its indices in range, ends with the lookup, whatever its floats are. -/
theorem found_reference {F : FTy → Type} [FloatOps F]
    (m : (ℓ : Loc Cert.ReferenceIdeal.nD Cert.ReferenceIdeal.τ Cert.ReferenceIdeal.sig) → Buf (Elt F) ℓ)
    (ρ : Dev Cert.ReferenceIdeal.nD → PrngReg)
    (hx : ∀ (c : Dev Cert.ReferenceIdeal.nD) (j : Cert.ReferenceIdeal.S4096x50.Idx),
      (m ((c.tc : Thread Cert.ReferenceIdeal.nD Cert.ReferenceIdeal.τ).loc Cert.ReferenceIdeal.main_arg0) j).toNat < 100000) :
    θ_run (Cert.ReferenceIdeal.defs (F := F)) (onTc (τ := Cert.ReferenceIdeal.τ) (Cert.ReferenceIdeal.main (F := F)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v0)
            = picked (F := F) (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
          ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)) :=
  (θ_run Cert.ReferenceIdeal.defs _ _).mono (fun _ h c => ⟨(h c).1.trans (taken_eq (F := F) (hx c) _), (h c).2⟩)
    (Cert.ReferenceIdeal.Value.run (F := F) m ρ)

/-- Over the extended reals the kernel and the reference end with the same result: the lookup. -/
theorem algebraic : Cert.algebraic_KernelIdeal_ReferenceIdeal := by
  intro m ρ m' ρ' hpre hagree
  refine ⟨fun c => picked (F := Ideal) (m (argLoc c)) (m (tabLoc c)), ?_, ?_⟩
  · exact (θ_run Cert.KernelIdeal.defs _ _).mono
      (fun _ h c => ⟨(h.1 c).2.2.trans (result_eq (F := Ideal) m c), (h.1 c).1, (h.1 c).2.1⟩)
      (run_main (F := Ideal) m ρ (ok_kernelIdeal hpre))
  · refine (θ_run Cert.ReferenceIdeal.defs _ _).mono (fun _ h c => ⟨(h c).1.trans ?_, (h c).2⟩)
      (found_reference (F := Ideal) m' ρ' fun c j => ?_)
    · rw [(hagree c).1]; exact ok_kernelIdeal hpre c j
    · exact congrArg₂ (picked (F := Ideal)) (hagree c).1 (hagree c).2

/-- Bit for bit the kernel and the reference end with the same result: the lookup again. -/
theorem bitexact : Cert.bitexact_Kernel_Reference := fun m ρ m' ρ' hpre hagree =>
  ⟨fun c => picked (F := Bits) (m (argLoc c)) (m (tabLoc c)),
    (θ_run Cert.KernelIdeal.defs _ _).mono
      (fun _ h c => ⟨(h.1 c).2.2.trans (result_eq (F := Bits) m c), (h.1 c).1, (h.1 c).2.1⟩)
      (run_main (F := Bits) m ρ (ok_kernel hpre)),
    (θ_run Cert.Reference.defs _ _).mono
      (fun _ h c => ⟨(h c).1.trans ((taken_eq (F := Bits) (fun j => (hagree c).1 ▸ ok_kernel hpre c j) _).trans
        (congrArg₂ (picked (F := Bits)) (hagree c).1 (hagree c).2)), (h c).2⟩)
      (Cert.Reference.Value.run (F := Bits) m' ρ')⟩

/-- Everything claimed. -/
theorem claim : Cert.Claim :=
  ⟨Cert.Kernel.Gen.facts, Cert.KernelIdeal.Gen.facts, Cert.ReferenceIdeal.Gen.facts, Cert.Reference.Gen.facts,
    Cert.Pre_in_range.Gen.facts, frame_kernel, frame_kernelIdeal, frame_referenceIdeal, frame_reference, trivial, algebraic,
    bitexact⟩

end Cert.Proof

end
